-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x128x1024 : Shape := ⟨3, ![8, 128, 1024]⟩
abbrev S360448x1024 : Shape := ⟨2, ![360448, 1024]⟩
abbrev S360448 : Shape := ⟨1, ![360448]⟩
abbrev S1024x1024 : Shape := ⟨2, ![1024, 1024]⟩
abbrev S176x16x128 : Shape := ⟨3, ![176, 16, 128]⟩
abbrev S20x1024 : Shape := ⟨2, ![20, 1024]⟩
abbrev S2048x1024 : Shape := ⟨2, ![2048, 1024]⟩
abbrev S1x16x128 : Shape := ⟨3, ![1, 16, 128]⟩
abbrev S20x8x1024 : Shape := ⟨3, ![20, 8, 1024]⟩
abbrev S256x128 : Shape := ⟨2, ![256, 128]⟩
abbrev S256x256 : Shape := ⟨2, ![256, 256]⟩
abbrev S1x1x128 : Shape := ⟨3, ![1, 1, 128]⟩
abbrev S1x128 : Shape := ⟨2, ![1, 128]⟩
abbrev S128x128 : Shape := ⟨2, ![128, 128]⟩
abbrev S256x1024 : Shape := ⟨2, ![256, 1024]⟩
abbrev S1x8x128 : Shape := ⟨3, ![1, 8, 128]⟩
abbrev S8x128 : Shape := ⟨2, ![8, 128]⟩

abbrev nBuf : Space → Nat
  | .hbm => 6
  | .vmem => 9
  | .smem => 0
  | _ => 0

abbrev bufTy : (tb : Table) → Fin (tcTables nBuf tb) → BufTy
  | .hbm, ⟨0, _⟩ => ⟨S8x128x1024, .bf16⟩
  | .hbm, ⟨1, _⟩ => ⟨S360448x1024, .i8⟩
  | .hbm, ⟨2, _⟩ => ⟨S360448, .f32⟩
  | .hbm, ⟨3, _⟩ => ⟨S1024x1024, .bf16⟩
  | .hbm, ⟨4, _⟩ => ⟨S176x16x128, .f32⟩
  | .hbm, ⟨5, _⟩ => ⟨S20x1024, .f32⟩
  | .local _ .vmem, ⟨0, _⟩ => ⟨S1024x1024, .bf16⟩
  | .local _ .vmem, ⟨1, _⟩ => ⟨S2048x1024, .i8⟩
  | .local _ .vmem, ⟨2, _⟩ => ⟨S2048x1024, .i8⟩
  | .local _ .vmem, ⟨3, _⟩ => ⟨S1x16x128, .f32⟩
  | .local _ .vmem, ⟨4, _⟩ => ⟨S1x16x128, .f32⟩
  | .local _ .vmem, ⟨5, _⟩ => ⟨S20x1024, .f32⟩
  | .local _ .vmem, ⟨6, _⟩ => ⟨S20x8x1024, .f32⟩
  | .local _ .vmem, ⟨7, _⟩ => ⟨S256x128, .f32⟩
  | .local _ .vmem, ⟨8, _⟩ => ⟨S256x256, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![176], ![false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg8 : BitVec 32 := Scf.iv c0_i32_1 c1_i32 k0_t1
  let c256_i32 : BitVec 32 := 256#32
  let v7 : BitVec 32 := Scalar.muli arg8 c256_i32
  v7
def k0_off1 (k0_t1 : Fin k0_t1_loop.trips) (c0_i32_4 : BitVec 32) : Fin 3 → Nat :=
  let c0 : Index := 0#32
  let c0_i32_1 : BitVec 32 := 0#32
  let c1_i32 : BitVec 32 := 1#32
  let arg8 : BitVec 32 := Scf.iv c0_i32_1 c1_i32 k0_t1
  let c2_i32 : BitVec 32 := 2#32
  let v9 : BitVec 32 := Scalar.muli arg8 c2_i32
  let v10 : BitVec 32 := Scalar.addi v9 c0_i32_4
  let v11 : Index := Scalar.indexCast v10
  let c0_5 : Index := 0#32
  ![0, v11.toNat, 0]
def k0_off2 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let c256_i32 : BitVec 32 := 256#32
  let v7 : BitVec 32 := Scalar.muli arg8 c256_i32
  let v8 : BitVec 32 := v7
  let v31 : Index := Scalar.indexCast v8
  let c0_13 : Index := 0#32
  ![v31.toNat, 0]
@[reducible] def k0_t2_loop : Scf.Loop 32 :=
  let c0_i32_59 : BitVec 32 := 0#32
  let c32_i32 : BitVec 32 := 32#32
  let v80 : BitVec 32 := Scalar.addi c0_i32_59 c32_i32
  let c1_i32_60 : BitVec 32 := 1#32
  ⟨c0_i32_59, v80, c1_i32_60⟩
def k0_mult2 (k0_t2 : Fin k0_t2_loop.trips) : BitVec 32 :=
  let c0_i32_59 : BitVec 32 := 0#32
  let c1_i32_60 : BitVec 32 := 1#32
  let arg9 : BitVec 32 := Scf.iv c0_i32_59 c1_i32_60 k0_t2
  let c8_i32_999 : BitVec 32 := 8#32
  let v874 : BitVec 32 := Scalar.muli arg9 c8_i32_999
  v874
def k0_off3 (k0_t2 : Fin k0_t2_loop.trips) : Fin 2 → Nat :=
  let c0_i32_59 : BitVec 32 := 0#32
  let c1_i32_60 : BitVec 32 := 1#32
  let arg9 : BitVec 32 := Scf.iv c0_i32_59 c1_i32_60 k0_t2
  let c8_i32_999 : BitVec 32 := 8#32
  let v874 : BitVec 32 := Scalar.muli arg9 c8_i32_999
  let v875 : BitVec 32 := v874
  let v876 : Index := Scalar.indexCast v875
  let c0_1000 : Index := 0#32
  ![v876.toNat, 0]
def k0_off4 (k0_t2 : Fin k0_t2_loop.trips) : Fin 2 → Nat :=
  let c0_i32_59 : BitVec 32 := 0#32
  let c1_i32_60 : BitVec 32 := 1#32
  let arg9 : BitVec 32 := Scf.iv c0_i32_59 c1_i32_60 k0_t2
  let c8_i32_999 : BitVec 32 := 8#32
  let v874 : BitVec 32 := Scalar.muli arg9 c8_i32_999
  let v875 : BitVec 32 := v874
  let v878 : Index := Scalar.indexCast v875
  let c0_1001 : Index := 0#32
  ![v878.toNat, 0]
@[reducible] def k0_t3_loop : Scf.Loop 32 :=
  let c0_i32_182 : BitVec 32 := 0#32
  let c32_i32_183 : BitVec 32 := 32#32
  let v182 : BitVec 32 := Scalar.addi c0_i32_182 c32_i32_183
  let c1_i32_184 : BitVec 32 := 1#32
  ⟨c0_i32_182, v182, c1_i32_184⟩
def k0_mult3 (k0_t3 : Fin k0_t3_loop.trips) : BitVec 32 :=
  let c0_i32_182 : BitVec 32 := 0#32
  let c1_i32_184 : BitVec 32 := 1#32
  let arg9 : BitVec 32 := Scf.iv c0_i32_182 c1_i32_184 k0_t3
  let c8_i32_999 : BitVec 32 := 8#32
  let v874 : BitVec 32 := Scalar.muli arg9 c8_i32_999
  v874
def k0_off5 (k0_t3 : Fin k0_t3_loop.trips) : Fin 2 → Nat :=
  let c0_i32_182 : BitVec 32 := 0#32
  let c1_i32_184 : BitVec 32 := 1#32
  let arg9 : BitVec 32 := Scf.iv c0_i32_182 c1_i32_184 k0_t3
  let c8_i32_999 : BitVec 32 := 8#32
  let v874 : BitVec 32 := Scalar.muli arg9 c8_i32_999
  let v875 : BitVec 32 := v874
  let v876 : Index := Scalar.indexCast v875
  let c128_1000 : Index := 128#32
  ![v876.toNat, 128]
def k0_off6 (k0_t3 : Fin k0_t3_loop.trips) : Fin 2 → Nat :=
  let c0_i32_182 : BitVec 32 := 0#32
  let c1_i32_184 : BitVec 32 := 1#32
  let arg9 : BitVec 32 := Scf.iv c0_i32_182 c1_i32_184 k0_t3
  let c8_i32_999 : BitVec 32 := 8#32
  let v874 : BitVec 32 := Scalar.muli arg9 c8_i32_999
  let v875 : BitVec 32 := v874
  let v878 : Index := Scalar.indexCast v875
  let c0_1001 : Index := 0#32
  ![v878.toNat, 0]
@[reducible] def k0_t4_loop : Scf.Loop 32 :=
  let c0_i32_310 : BitVec 32 := 0#32
  let c32_i32_311 : BitVec 32 := 32#32
  let v290 : BitVec 32 := Scalar.addi c0_i32_310 c32_i32_311
  let c1_i32_312 : BitVec 32 := 1#32
  ⟨c0_i32_310, v290, c1_i32_312⟩
def k0_mult4 (k0_t4 : Fin k0_t4_loop.trips) : BitVec 32 :=
  let c0_i32_310 : BitVec 32 := 0#32
  let c1_i32_312 : BitVec 32 := 1#32
  let arg9 : BitVec 32 := Scf.iv c0_i32_310 c1_i32_312 k0_t4
  let c8_i32_999 : BitVec 32 := 8#32
  let v874 : BitVec 32 := Scalar.muli arg9 c8_i32_999
  v874
def k0_off7 (k0_t4 : Fin k0_t4_loop.trips) : Fin 2 → Nat :=
  let c0_i32_310 : BitVec 32 := 0#32
  let c1_i32_312 : BitVec 32 := 1#32
  let arg9 : BitVec 32 := Scf.iv c0_i32_310 c1_i32_312 k0_t4
  let c8_i32_999 : BitVec 32 := 8#32
  let v874 : BitVec 32 := Scalar.muli arg9 c8_i32_999
  let v875 : BitVec 32 := v874
  let v876 : Index := Scalar.indexCast v875
  let c0_1000 : Index := 0#32
  ![v876.toNat, 0]
def k0_off8 (k0_t4 : Fin k0_t4_loop.trips) : Fin 2 → Nat :=
  let c0_i32_310 : BitVec 32 := 0#32
  let c1_i32_312 : BitVec 32 := 1#32
  let arg9 : BitVec 32 := Scf.iv c0_i32_310 c1_i32_312 k0_t4
  let c8_i32_999 : BitVec 32 := 8#32
  let v874 : BitVec 32 := Scalar.muli arg9 c8_i32_999
  let v875 : BitVec 32 := v874
  let v878 : Index := Scalar.indexCast v875
  let c0_1001 : Index := 0#32
  ![v878.toNat, 0]
@[reducible] def k0_t5_loop : Scf.Loop 32 :=
  let c0_i32_433 : BitVec 32 := 0#32
  let c32_i32_434 : BitVec 32 := 32#32
  let v392 : BitVec 32 := Scalar.addi c0_i32_433 c32_i32_434
  let c1_i32_435 : BitVec 32 := 1#32
  ⟨c0_i32_433, v392, c1_i32_435⟩
def k0_mult5 (k0_t5 : Fin k0_t5_loop.trips) : BitVec 32 :=
  let c0_i32_433 : BitVec 32 := 0#32
  let c1_i32_435 : BitVec 32 := 1#32
  let arg9 : BitVec 32 := Scf.iv c0_i32_433 c1_i32_435 k0_t5
  let c8_i32_999 : BitVec 32 := 8#32
  let v874 : BitVec 32 := Scalar.muli arg9 c8_i32_999
  v874
def k0_off9 (k0_t5 : Fin k0_t5_loop.trips) : Fin 2 → Nat :=
  let c0_i32_433 : BitVec 32 := 0#32
  let c1_i32_435 : BitVec 32 := 1#32
  let arg9 : BitVec 32 := Scf.iv c0_i32_433 c1_i32_435 k0_t5
  let c8_i32_999 : BitVec 32 := 8#32
  let v874 : BitVec 32 := Scalar.muli arg9 c8_i32_999
  let v875 : BitVec 32 := v874
  let v876 : Index := Scalar.indexCast v875
  let c128_1000 : Index := 128#32
  ![v876.toNat, 128]
def k0_off10 (k0_t5 : Fin k0_t5_loop.trips) : Fin 2 → Nat :=
  let c0_i32_433 : BitVec 32 := 0#32
  let c1_i32_435 : BitVec 32 := 1#32
  let arg9 : BitVec 32 := Scf.iv c0_i32_433 c1_i32_435 k0_t5
  let c8_i32_999 : BitVec 32 := 8#32
  let v874 : BitVec 32 := Scalar.muli arg9 c8_i32_999
  let v875 : BitVec 32 := v874
  let v878 : Index := Scalar.indexCast v875
  let c0_1001 : Index := 0#32
  ![v878.toNat, 0]
@[reducible] def k0_t6_loop : Scf.Loop 32 :=
  let c0_i32_561 : BitVec 32 := 0#32
  let c32_i32_562 : BitVec 32 := 32#32
  let v500 : BitVec 32 := Scalar.addi c0_i32_561 c32_i32_562
  let c1_i32_563 : BitVec 32 := 1#32
  ⟨c0_i32_561, v500, c1_i32_563⟩
def k0_mult6 (k0_t6 : Fin k0_t6_loop.trips) : BitVec 32 :=
  let c0_i32_561 : BitVec 32 := 0#32
  let c1_i32_563 : BitVec 32 := 1#32
  let arg9 : BitVec 32 := Scf.iv c0_i32_561 c1_i32_563 k0_t6
  let c8_i32_999 : BitVec 32 := 8#32
  let v874 : BitVec 32 := Scalar.muli arg9 c8_i32_999
  v874
def k0_off11 (k0_t6 : Fin k0_t6_loop.trips) : Fin 2 → Nat :=
  let c0_i32_561 : BitVec 32 := 0#32
  let c1_i32_563 : BitVec 32 := 1#32
  let arg9 : BitVec 32 := Scf.iv c0_i32_561 c1_i32_563 k0_t6
  let c8_i32_999 : BitVec 32 := 8#32
  let v874 : BitVec 32 := Scalar.muli arg9 c8_i32_999
  let v875 : BitVec 32 := v874
  let v876 : Index := Scalar.indexCast v875
  let c0_1000 : Index := 0#32
  ![v876.toNat, 0]
def k0_off12 (k0_t6 : Fin k0_t6_loop.trips) : Fin 2 → Nat :=
  let c0_i32_561 : BitVec 32 := 0#32
  let c1_i32_563 : BitVec 32 := 1#32
  let arg9 : BitVec 32 := Scf.iv c0_i32_561 c1_i32_563 k0_t6
  let c8_i32_999 : BitVec 32 := 8#32
  let v874 : BitVec 32 := Scalar.muli arg9 c8_i32_999
  let v875 : BitVec 32 := v874
  let v878 : Index := Scalar.indexCast v875
  let c0_1001 : Index := 0#32
  ![v878.toNat, 0]
@[reducible] def k0_t7_loop : Scf.Loop 32 :=
  let c0_i32_684 : BitVec 32 := 0#32
  let c32_i32_685 : BitVec 32 := 32#32
  let v602 : BitVec 32 := Scalar.addi c0_i32_684 c32_i32_685
  let c1_i32_686 : BitVec 32 := 1#32
  ⟨c0_i32_684, v602, c1_i32_686⟩
def k0_mult7 (k0_t7 : Fin k0_t7_loop.trips) : BitVec 32 :=
  let c0_i32_684 : BitVec 32 := 0#32
  let c1_i32_686 : BitVec 32 := 1#32
  let arg9 : BitVec 32 := Scf.iv c0_i32_684 c1_i32_686 k0_t7
  let c8_i32_999 : BitVec 32 := 8#32
  let v874 : BitVec 32 := Scalar.muli arg9 c8_i32_999
  v874
def k0_off13 (k0_t7 : Fin k0_t7_loop.trips) : Fin 2 → Nat :=
  let c0_i32_684 : BitVec 32 := 0#32
  let c1_i32_686 : BitVec 32 := 1#32
  let arg9 : BitVec 32 := Scf.iv c0_i32_684 c1_i32_686 k0_t7
  let c8_i32_999 : BitVec 32 := 8#32
  let v874 : BitVec 32 := Scalar.muli arg9 c8_i32_999
  let v875 : BitVec 32 := v874
  let v876 : Index := Scalar.indexCast v875
  let c128_1000 : Index := 128#32
  ![v876.toNat, 128]
def k0_off14 (k0_t7 : Fin k0_t7_loop.trips) : Fin 2 → Nat :=
  let c0_i32_684 : BitVec 32 := 0#32
  let c1_i32_686 : BitVec 32 := 1#32
  let arg9 : BitVec 32 := Scf.iv c0_i32_684 c1_i32_686 k0_t7
  let c8_i32_999 : BitVec 32 := 8#32
  let v874 : BitVec 32 := Scalar.muli arg9 c8_i32_999
  let v875 : BitVec 32 := v874
  let v878 : Index := Scalar.indexCast v875
  let c0_1001 : Index := 0#32
  ![v878.toNat, 0]
@[reducible] def k0_t8_loop : Scf.Loop 32 :=
  let c0_i32_812 : BitVec 32 := 0#32
  let c32_i32_813 : BitVec 32 := 32#32
  let v710 : BitVec 32 := Scalar.addi c0_i32_812 c32_i32_813
  let c1_i32_814 : BitVec 32 := 1#32
  ⟨c0_i32_812, v710, c1_i32_814⟩
def k0_mult8 (k0_t8 : Fin k0_t8_loop.trips) : BitVec 32 :=
  let c0_i32_812 : BitVec 32 := 0#32
  let c1_i32_814 : BitVec 32 := 1#32
  let arg9 : BitVec 32 := Scf.iv c0_i32_812 c1_i32_814 k0_t8
  let c8_i32_999 : BitVec 32 := 8#32
  let v874 : BitVec 32 := Scalar.muli arg9 c8_i32_999
  v874
def k0_off15 (k0_t8 : Fin k0_t8_loop.trips) : Fin 2 → Nat :=
  let c0_i32_812 : BitVec 32 := 0#32
  let c1_i32_814 : BitVec 32 := 1#32
  let arg9 : BitVec 32 := Scf.iv c0_i32_812 c1_i32_814 k0_t8
  let c8_i32_999 : BitVec 32 := 8#32
  let v874 : BitVec 32 := Scalar.muli arg9 c8_i32_999
  let v875 : BitVec 32 := v874
  let v876 : Index := Scalar.indexCast v875
  let c0_1000 : Index := 0#32
  ![v876.toNat, 0]
def k0_off16 (k0_t8 : Fin k0_t8_loop.trips) : Fin 2 → Nat :=
  let c0_i32_812 : BitVec 32 := 0#32
  let c1_i32_814 : BitVec 32 := 1#32
  let arg9 : BitVec 32 := Scf.iv c0_i32_812 c1_i32_814 k0_t8
  let c8_i32_999 : BitVec 32 := 8#32
  let v874 : BitVec 32 := Scalar.muli arg9 c8_i32_999
  let v875 : BitVec 32 := v874
  let v878 : Index := Scalar.indexCast v875
  let c0_1001 : Index := 0#32
  ![v878.toNat, 0]
@[reducible] def k0_t9_loop : Scf.Loop 32 :=
  let c0_i32_935 : BitVec 32 := 0#32
  let c32_i32_936 : BitVec 32 := 32#32
  let v812 : BitVec 32 := Scalar.addi c0_i32_935 c32_i32_936
  let c1_i32_937 : BitVec 32 := 1#32
  ⟨c0_i32_935, v812, c1_i32_937⟩
def k0_mult9 (k0_t9 : Fin k0_t9_loop.trips) : BitVec 32 :=
  let c0_i32_935 : BitVec 32 := 0#32
  let c1_i32_937 : BitVec 32 := 1#32
  let arg9 : BitVec 32 := Scf.iv c0_i32_935 c1_i32_937 k0_t9
  let c8_i32_999 : BitVec 32 := 8#32
  let v874 : BitVec 32 := Scalar.muli arg9 c8_i32_999
  v874
def k0_off17 (k0_t9 : Fin k0_t9_loop.trips) : Fin 2 → Nat :=
  let c0_i32_935 : BitVec 32 := 0#32
  let c1_i32_937 : BitVec 32 := 1#32
  let arg9 : BitVec 32 := Scf.iv c0_i32_935 c1_i32_937 k0_t9
  let c8_i32_999 : BitVec 32 := 8#32
  let v874 : BitVec 32 := Scalar.muli arg9 c8_i32_999
  let v875 : BitVec 32 := v874
  let v876 : Index := Scalar.indexCast v875
  let c128_1000 : Index := 128#32
  ![v876.toNat, 128]
def k0_off18 (k0_t9 : Fin k0_t9_loop.trips) : Fin 2 → Nat :=
  let c0_i32_935 : BitVec 32 := 0#32
  let c1_i32_937 : BitVec 32 := 1#32
  let arg9 : BitVec 32 := Scf.iv c0_i32_935 c1_i32_937 k0_t9
  let c8_i32_999 : BitVec 32 := 8#32
  let v874 : BitVec 32 := Scalar.muli arg9 c8_i32_999
  let v875 : BitVec 32 := v874
  let v878 : Index := Scalar.indexCast v875
  let c0_1001 : Index := 0#32
  ![v878.toNat, 0]
def k0_cond2 (i : grid0.Coords) : BitVec 1 :=
  let arg0 : BitVec 32 := BitVec.ofNat 32 (i 0).val
  let c175_i32 : BitVec 32 := 175#32
  let v4 : BitVec 1 := Scalar.cmpi .eq arg0 c175_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S20x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S8x128x1024 : Shape := ⟨3, ![8, 128, 1024]⟩
abbrev S360448x1024 : Shape := ⟨2, ![360448, 1024]⟩
abbrev S360448 : Shape := ⟨1, ![360448]⟩
abbrev S1024x1024 : Shape := ⟨2, ![1024, 1024]⟩
abbrev S1024x360448 : Shape := ⟨2, ![1024, 360448]⟩
abbrev S1x360448 : Shape := ⟨2, ![1, 360448]⟩
abbrev S1024x20 : Shape := ⟨2, ![1024, 20]⟩
abbrev S20x1024 : Shape := ⟨2, ![20, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S360448x1024, .i8⟩
  | .hbm, ⟨2, _⟩ => ⟨S360448, .f32⟩
  | .hbm, ⟨3, _⟩ => ⟨S1024x1024, .bf16⟩
  | .hbm, ⟨4, _⟩ => ⟨S360448x1024, .i32⟩
  | .hbm, ⟨5, _⟩ => ⟨S360448x1024, .f32⟩
  | .hbm, ⟨6, _⟩ => ⟨S360448x1024, .bf16⟩
  | .hbm, ⟨7, _⟩ => ⟨S1024x360448, .f32⟩
  | .hbm, ⟨8, _⟩ => ⟨S1x360448, .f32⟩
  | .hbm, ⟨9, _⟩ => ⟨S1024x360448, .f32⟩
  | .hbm, ⟨10, _⟩ => ⟨S1024x360448, .f32⟩
  | .hbm, ⟨11, _⟩ => ⟨S1024x20, .f32⟩
  | .hbm, ⟨12, _⟩ => ⟨S1024x20, .i32⟩
  | .hbm, ⟨13, _⟩ => ⟨S20x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_values : Ref sig .tc := ⟨.hbm, 11, rfl⟩
abbrev main_indices : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Proof.KTrip.lean ====
module

public import proofs.«01_k».proof.Proof.Gen.Kernel.Loops
public import Idealize.ShloMosaic.Lib.Tactic
public import Idealize.ShloMosaic.Lib.Pipeline.Kit

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- A memref's buffer held at contents `f`. -/
abbrev pt (c : Dev nD) {S : Shape} {e : EltTy} (M : Memref sig .tc .vmem S e) (f : BufTy.Contents (Elt F) M.view.ty) : sProp 𝕄G :=
  M.view.loc (c : Thread nD τ) ↦[M.view.set]{fullShare} f

/-- One trip of the block loop: the stores it makes on the state, and that it runs to its end with them. -/
@[irreducible] def trip (c : Dev nD) (i : grid0.Coords) (arg1 : Memref sig .tc .vmem S1024x1024 .bf16) (harg1 : arg1.IsWhole) (arg2 : Memref sig .tc .vmem S2048x1024 .i8) (harg2 : arg2.IsWhole) (arg3 : Memref sig .tc .vmem S1x16x128 .f32) (harg3 : arg3.IsWhole) (arg4 : Memref sig .tc .vmem S20x1024 .f32) (harg4 : arg4.IsWhole) (arg5 : Memref sig .tc .vmem S20x8x1024 .f32) (harg5 : arg5.IsWhole) (arg6 : Memref sig .tc .vmem S256x128 .f32) (harg6 : arg6.IsWhole) (arg7 : Memref sig .tc .vmem S256x256 .f32) (harg7 : arg7.IsWhole)
    (f1 : BufTy.Contents (Elt F) arg1.view.ty) (f2 : BufTy.Contents (Elt F) arg2.view.ty) (f3 : BufTy.Contents (Elt F) arg3.view.ty)
    (f5 : BufTy.Contents (Elt F) arg5.view.ty) (k : Fin k0_t1_loop.trips) :
    { L : List (View.Piece (Elt F) S20x8x1024 .f32) //
      ∀ (f6 : BufTy.Contents (Elt F) arg6.view.ty) (f7 : BufTy.Contents (Elt F) arg7.view.ty) E,
      iprop(pt c arg1 f1 ∗ pt c arg2 f2 ∗ pt c arg3 f3 ∗ pt c arg5 f5 ∗ pt c arg6 f6 ∗ pt c arg7 f7)
      ⊢ wp frame (wpE (defs₀ (F := F)) Variants.none (c : Thread nD τ) none) E (k0_t1_body (F := F) i arg1 harg1 arg2 harg2 arg3 harg3 arg4 harg4 arg5 harg5 arg6 harg6 arg7 harg7 k ())
          (fun _ => iprop(pt c arg1 f1 ∗ pt c arg2 f2 ∗ pt c arg3 f3 ∗ pt c arg5 (View.writes arg5.view (Elt F) f5 L)
            ∗ (∃ f, pt c arg6 f) ∗ (∃ f, pt c arg7 f))) } := by
  have hk : k.val < 8 := Nat.lt_of_lt_of_le k.isLt k0_t1_abs.2.1
  refine ⟨?_, fun f6 f7 E => ?run⟩
  case run =>
    unfold k0_t1_body
    iintro ⟨H1, H2, H3, H5, H6, H7⟩
    sl_exec
    sl_step
    isplitl [H1]; · iexact H1
    isplitl [H2]; · iexact H2
    isplitl [H3]; · iexact H3
    isplitl [H5]; · iexact H5
    isplitl [H6]; · iexists _; iexact H6
    iexists _; iexact H7

end Cert.Kernel.Hand
-- ==== Proof.KBody.lean ====
module

public import proofs.«01_k».proof.Proof.KTrip

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The state scratch before trip `n` of the block loop, from its contents `f5` before the loop: each trip's
    stores written over what the trip before left. -/
def stateAt (c : Dev nD) (i : grid0.Coords) (arg1 : Memref sig .tc .vmem S1024x1024 .bf16) (harg1 : arg1.IsWhole) (arg2 : Memref sig .tc .vmem S2048x1024 .i8) (harg2 : arg2.IsWhole) (arg3 : Memref sig .tc .vmem S1x16x128 .f32) (harg3 : arg3.IsWhole) (arg4 : Memref sig .tc .vmem S20x1024 .f32) (harg4 : arg4.IsWhole) (arg5 : Memref sig .tc .vmem S20x8x1024 .f32) (harg5 : arg5.IsWhole) (arg6 : Memref sig .tc .vmem S256x128 .f32) (harg6 : arg6.IsWhole) (arg7 : Memref sig .tc .vmem S256x256 .f32) (harg7 : arg7.IsWhole)
    (f1 : BufTy.Contents (Elt F) arg1.view.ty) (f2 : BufTy.Contents (Elt F) arg2.view.ty) (f3 : BufTy.Contents (Elt F) arg3.view.ty)
    (f5 : BufTy.Contents (Elt F) arg5.view.ty) : ℕ → BufTy.Contents (Elt F) arg5.view.ty
  | 0 => f5
  | n + 1 => if h : n < k0_t1_loop.trips then
      arg5.view.writes (Elt F) (stateAt c i arg1 harg1 arg2 harg2 arg3 harg3 arg4 harg4 arg5 harg5 arg6 harg6 arg7 harg7 f1 f2 f3 f5 n) (trip c i arg1 harg1 arg2 harg2 arg3 harg3 arg4 harg4 arg5 harg5 arg6 harg6 arg7 harg7 f1 f2 f3 (stateAt c i arg1 harg1 arg2 harg2 arg3 harg3 arg4 harg4 arg5 harg5 arg6 harg6 arg7 harg7 f1 f2 f3 f5 n) ⟨n, h⟩).1
    else stateAt c i arg1 harg1 arg2 harg2 arg3 harg3 arg4 harg4 arg5 harg5 arg6 harg6 arg7 harg7 f1 f2 f3 f5 n

/-- One trip further. -/
theorem stateAt_succ (c : Dev nD) (i : grid0.Coords) (arg1 : Memref sig .tc .vmem S1024x1024 .bf16) (harg1 : arg1.IsWhole) (arg2 : Memref sig .tc .vmem S2048x1024 .i8) (harg2 : arg2.IsWhole) (arg3 : Memref sig .tc .vmem S1x16x128 .f32) (harg3 : arg3.IsWhole) (arg4 : Memref sig .tc .vmem S20x1024 .f32) (harg4 : arg4.IsWhole) (arg5 : Memref sig .tc .vmem S20x8x1024 .f32) (harg5 : arg5.IsWhole) (arg6 : Memref sig .tc .vmem S256x128 .f32) (harg6 : arg6.IsWhole) (arg7 : Memref sig .tc .vmem S256x256 .f32) (harg7 : arg7.IsWhole)
    (f1 : BufTy.Contents (Elt F) arg1.view.ty) (f2 : BufTy.Contents (Elt F) arg2.view.ty) (f3 : BufTy.Contents (Elt F) arg3.view.ty)
    (f5 : BufTy.Contents (Elt F) arg5.view.ty) (k : Fin k0_t1_loop.trips) :
    stateAt c i arg1 harg1 arg2 harg2 arg3 harg3 arg4 harg4 arg5 harg5 arg6 harg6 arg7 harg7 f1 f2 f3 f5 (k.val + 1)
      = arg5.view.writes (Elt F) (stateAt c i arg1 harg1 arg2 harg2 arg3 harg3 arg4 harg4 arg5 harg5 arg6 harg6 arg7 harg7 f1 f2 f3 f5 k) (trip c i arg1 harg1 arg2 harg2 arg3 harg3 arg4 harg4 arg5 harg5 arg6 harg6 arg7 harg7 f1 f2 f3 (stateAt c i arg1 harg1 arg2 harg2 arg3 harg3 arg4 harg4 arg5 harg5 arg6 harg6 arg7 harg7 f1 f2 f3 f5 k) k).1 := by
  rw [stateAt.eq_2]; exact dif_pos k.isLt

/-- The block loop's invariant: the operands as they were, the state at `stateAt`, the two staging scratches at anything. -/
@[sl_loop] def loopInv_k0_t1 (c : Dev nD) (i : grid0.Coords) (arg1 : Memref sig .tc .vmem S1024x1024 .bf16) (harg1 : arg1.IsWhole) (arg2 : Memref sig .tc .vmem S2048x1024 .i8) (harg2 : arg2.IsWhole) (arg3 : Memref sig .tc .vmem S1x16x128 .f32) (harg3 : arg3.IsWhole) (arg4 : Memref sig .tc .vmem S20x1024 .f32) (harg4 : arg4.IsWhole) (arg5 : Memref sig .tc .vmem S20x8x1024 .f32) (harg5 : arg5.IsWhole) (arg6 : Memref sig .tc .vmem S256x128 .f32) (harg6 : arg6.IsWhole) (arg7 : Memref sig .tc .vmem S256x256 .f32) (harg7 : arg7.IsWhole)
    (f1 : BufTy.Contents (Elt F) arg1.view.ty) (f2 : BufTy.Contents (Elt F) arg2.view.ty) (f3 : BufTy.Contents (Elt F) arg3.view.ty)
    (f5 : BufTy.Contents (Elt F) arg5.view.ty) :
    LoopInvTy_k0_t1 (F := F) Unit ℕ (UR sig nD τ) ℕ Variants.none c none Set.univ i arg1 harg1 arg2 harg2 arg3 harg3 arg4 harg4 arg5 harg5 arg6 harg6 arg7 harg7 where
  inv n _ := iprop(pt c arg1 f1 ∗ pt c arg2 f2 ∗ pt c arg3 f3 ∗ pt c arg5 (stateAt c i arg1 harg1 arg2 harg2 arg3 harg3 arg4 harg4 arg5 harg5 arg6 harg6 arg7 harg7 f1 f2 f3 f5 n)
      ∗ (∃ f, pt c arg6 f) ∗ (∃ f, pt c arg7 f))
  step k _ := by
    rw [stateAt_succ]
    iintro ⟨H1, H2, H3, H5, ⟨%f6, H6⟩, ⟨%f7, H7⟩⟩
    iapply (trip c i arg1 harg1 arg2 harg2 arg3 harg3 arg4 harg4 arg5 harg5 arg6 harg6 arg7 harg7 f1 f2 f3 _ k).2 f6 f7
    isplitl [H1]; · iexact H1
    isplitl [H2]; · iexact H2
    isplitl [H3]; · iexact H3
    isplitl [H5]; · iexact H5
    isplitl [H6]; · iexact H6
    iexact H7

/-- The guard of the first grid step: `pid = 0`. -/
abbrev cond1 (i : grid0.Coords) : BitVec 1 := Scalar.cmpi .ne (Scalar.extui (Scalar.cmpi .eq (BitVec.ofNat 32 (i 0).val) 0#32)) 0#32

/-- The last grid step's stores to the result, the state being `f5` before the step. -/
@[irreducible] def lastRun (c : Dev nD) (i : grid0.Coords) (arg1 : Memref sig .tc .vmem S1024x1024 .bf16) (harg1 : arg1.IsWhole) (arg2 : Memref sig .tc .vmem S2048x1024 .i8) (harg2 : arg2.IsWhole) (arg3 : Memref sig .tc .vmem S1x16x128 .f32) (harg3 : arg3.IsWhole) (arg4 : Memref sig .tc .vmem S20x1024 .f32) (harg4 : arg4.IsWhole) (arg5 : Memref sig .tc .vmem S20x8x1024 .f32) (harg5 : arg5.IsWhole) (arg6 : Memref sig .tc .vmem S256x128 .f32) (harg6 : arg6.IsWhole) (arg7 : Memref sig .tc .vmem S256x256 .f32) (harg7 : arg7.IsWhole)
    (f1 : BufTy.Contents (Elt F) arg1.view.ty) (f2 : BufTy.Contents (Elt F) arg2.view.ty) (f3 : BufTy.Contents (Elt F) arg3.view.ty)
    (f5 : BufTy.Contents (Elt F) arg5.view.ty) (h1 : ¬ cond1 i = 1#1) (h2 : k0_cond2 i = 1#1) :
    { L : List (View.Piece (Elt F) S20x1024 .f32) //
      ∀ (f4 : BufTy.Contents (Elt F) arg4.view.ty) (f6 : BufTy.Contents (Elt F) arg6.view.ty) (f7 : BufTy.Contents (Elt F) arg7.view.ty),
      iprop(pt c arg1 f1 ∗ pt c arg2 f2 ∗ pt c arg3 f3 ∗ pt c arg4 f4 ∗ pt c arg5 f5 ∗ pt c arg6 f6 ∗ pt c arg7 f7)
      ⊢ wp frame (wpE (defs₀ (F := F)) Variants.none (c : Thread nD τ) none) Set.univ (cc0_topk_exact (F := F) i arg1 harg1 arg2 harg2 arg3 harg3 arg4 harg4 arg5 harg5 arg6 harg6 arg7 harg7)
          (fun _ => iprop(pt c arg1 f1 ∗ pt c arg2 f2 ∗ pt c arg3 f3 ∗ pt c arg4 (arg4.view.writes (Elt F) f4 L)
            ∗ pt c arg5 (stateAt c i arg1 harg1 arg2 harg2 arg3 harg3 arg4 harg4 arg5 harg5 arg6 harg6 arg7 harg7 f1 f2 f3 f5 8)
            ∗ (∃ f, pt c arg6 f) ∗ (∃ f, pt c arg7 f))) } := by
  refine ⟨?_, fun f4 f6 f7 => ?run⟩
  case run =>
    simp only [cc0_topk_exact_eq_skeleton]; unfold cc0_topk_exact_skel
    iintro ⟨H1, H2, H3, H4, H5, H6, H7⟩
    sl_exec
    sl_step
    isplitl [H1]; · iexact H1
    isplitl [H2]; · iexact H2
    isplitl [H3]; · iexact H3
    isplitl [H4]; · iexact H4
    isplitl [H5]; · iexact H5
    isplitl [H6]; · iexists _; iexact H6
    iexists _; iexact H7

end Cert.Kernel.Hand
-- ==== Proof.KSteps.lean ====
module

public import proofs.«01_k».proof.Proof.KBody

@[expose] public section

set_option maxRecDepth 16384
set_option maxHeartbeats 800000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The state once the first grid step has filled it with `-inf`. -/
abbrev stateInit (arg5 : Memref sig .tc .vmem S20x8x1024 .f32) : BufTy.Contents (Elt F) arg5.view.ty :=
  arg5.view.writes (Elt F) arg5.view.junk [⟨Rect.unit ![0, 0, 0] S20x8x1024.size inb_S20x8x1024_S20x8x1024_0_0_0, k0_pay1⟩]

/-- The first grid step: the state is filled with `-inf`, then the block loop runs. -/
theorem firstRun (c : Dev nD) (i : grid0.Coords) (arg1 : Memref sig .tc .vmem S1024x1024 .bf16) (harg1 : arg1.IsWhole) (arg2 : Memref sig .tc .vmem S2048x1024 .i8) (harg2 : arg2.IsWhole) (arg3 : Memref sig .tc .vmem S1x16x128 .f32) (harg3 : arg3.IsWhole) (arg4 : Memref sig .tc .vmem S20x1024 .f32) (harg4 : arg4.IsWhole) (arg5 : Memref sig .tc .vmem S20x8x1024 .f32) (harg5 : arg5.IsWhole) (arg6 : Memref sig .tc .vmem S256x128 .f32) (harg6 : arg6.IsWhole) (arg7 : Memref sig .tc .vmem S256x256 .f32) (harg7 : arg7.IsWhole)
    (f1 : BufTy.Contents (Elt F) arg1.view.ty) (f2 : BufTy.Contents (Elt F) arg2.view.ty) (f3 : BufTy.Contents (Elt F) arg3.view.ty)
    (f4 : BufTy.Contents (Elt F) arg4.view.ty) (f5 : BufTy.Contents (Elt F) arg5.view.ty) (f6 : BufTy.Contents (Elt F) arg6.view.ty) (f7 : BufTy.Contents (Elt F) arg7.view.ty)
    (h1 : cond1 i = 1#1) (h2 : ¬ k0_cond2 i = 1#1) :
      iprop(pt c arg1 f1 ∗ pt c arg2 f2 ∗ pt c arg3 f3 ∗ pt c arg4 f4 ∗ pt c arg5 f5 ∗ pt c arg6 f6 ∗ pt c arg7 f7)
      ⊢ wp frame (wpE (defs₀ (F := F)) Variants.none (c : Thread nD τ) none) Set.univ (cc0_topk_exact (F := F) i arg1 harg1 arg2 harg2 arg3 harg3 arg4 harg4 arg5 harg5 arg6 harg6 arg7 harg7)
          (fun _ => iprop(pt c arg1 f1 ∗ pt c arg2 f2 ∗ pt c arg3 f3 ∗ pt c arg4 f4
            ∗ pt c arg5 (stateAt c i arg1 harg1 arg2 harg2 arg3 harg3 arg4 harg4 arg5 harg5 arg6 harg6 arg7 harg7 f1 f2 f3 (stateInit arg5) 8)
            ∗ (∃ f, pt c arg6 f) ∗ (∃ f, pt c arg7 f))) := by
  simp only [cc0_topk_exact_eq_skeleton]; unfold cc0_topk_exact_skel
  iintro ⟨H1, H2, H3, H4, H5, H6, H7⟩
  sl_exec
  sl_step
  isplitl [H1]; · iexact H1
  isplitl [H2]; · iexact H2
  isplitl [H3]; · iexact H3
  isplitl [H4]; · iexact H4
  isplitl [H5]; · iexact H5
  isplitl [H6]; · iexists _; iexact H6
  iexists _; iexact H7

/-- A grid step between the first and the last: only the block loop. -/
theorem midRun (c : Dev nD) (i : grid0.Coords) (arg1 : Memref sig .tc .vmem S1024x1024 .bf16) (harg1 : arg1.IsWhole) (arg2 : Memref sig .tc .vmem S2048x1024 .i8) (harg2 : arg2.IsWhole) (arg3 : Memref sig .tc .vmem S1x16x128 .f32) (harg3 : arg3.IsWhole) (arg4 : Memref sig .tc .vmem S20x1024 .f32) (harg4 : arg4.IsWhole) (arg5 : Memref sig .tc .vmem S20x8x1024 .f32) (harg5 : arg5.IsWhole) (arg6 : Memref sig .tc .vmem S256x128 .f32) (harg6 : arg6.IsWhole) (arg7 : Memref sig .tc .vmem S256x256 .f32) (harg7 : arg7.IsWhole)
    (f1 : BufTy.Contents (Elt F) arg1.view.ty) (f2 : BufTy.Contents (Elt F) arg2.view.ty) (f3 : BufTy.Contents (Elt F) arg3.view.ty)
    (f4 : BufTy.Contents (Elt F) arg4.view.ty) (f5 : BufTy.Contents (Elt F) arg5.view.ty) (f6 : BufTy.Contents (Elt F) arg6.view.ty) (f7 : BufTy.Contents (Elt F) arg7.view.ty)
    (h1 : ¬ cond1 i = 1#1) (h2 : ¬ k0_cond2 i = 1#1) :
      iprop(pt c arg1 f1 ∗ pt c arg2 f2 ∗ pt c arg3 f3 ∗ pt c arg4 f4 ∗ pt c arg5 f5 ∗ pt c arg6 f6 ∗ pt c arg7 f7)
      ⊢ wp frame (wpE (defs₀ (F := F)) Variants.none (c : Thread nD τ) none) Set.univ (cc0_topk_exact (F := F) i arg1 harg1 arg2 harg2 arg3 harg3 arg4 harg4 arg5 harg5 arg6 harg6 arg7 harg7)
          (fun _ => iprop(pt c arg1 f1 ∗ pt c arg2 f2 ∗ pt c arg3 f3 ∗ pt c arg4 f4
            ∗ pt c arg5 (stateAt c i arg1 harg1 arg2 harg2 arg3 harg3 arg4 harg4 arg5 harg5 arg6 harg6 arg7 harg7 f1 f2 f3 f5 8)
            ∗ (∃ f, pt c arg6 f) ∗ (∃ f, pt c arg7 f))) := by
  simp only [cc0_topk_exact_eq_skeleton]; unfold cc0_topk_exact_skel
  iintro ⟨H1, H2, H3, H4, H5, H6, H7⟩
  sl_exec
  sl_step
  isplitl [H1]; · iexact H1
  isplitl [H2]; · iexact H2
  isplitl [H3]; · iexact H3
  isplitl [H4]; · iexact H4
  isplitl [H5]; · iexact H5
  isplitl [H6]; · iexists _; iexact H6
  iexists _; iexact H7

end Cert.Kernel.Hand
-- ==== Proof.KRun.lean ====
module

public import proofs.«01_k».proof.Proof.KSteps
public import proofs.«01_k».proof.Proof.Gen.Kernel.Frame
public import Idealize.ShloMosaic.Lib.Pipeline.DatRel
public import Idealize.ShloMosaic.Lib.Pipeline.ArrRel
public import Idealize.ShloMosaic.Lib.Claim

@[expose] public section

set_option maxHeartbeats 800000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three scratch buffers -/

/-- The state scratch. -/
abbrev scr0 : Memref sig .tc .vmem S20x8x1024 .f32 := Memref.whole cc0_scratch0
/-- The scratch of the scales. -/
abbrev scr1 : Memref sig .tc .vmem S256x128 .f32 := Memref.whole cc0_scratch1
/-- The scratch of the products. -/
abbrev scr2 : Memref sig .tc .vmem S256x256 .f32 := Memref.whole cc0_scratch2

/-- The staging buffer of window 0 is a whole buffer. -/
abbrev hst0 (t : Fin cfg0.N) : (st0_0 t).IsWhole := hstage0_0 ((cfg0.slots t 0).cast nbuf0_0)
/-- The staging buffer of window 1 is a whole buffer. -/
abbrev hst1 (t : Fin cfg0.N) : (st0_1 t).IsWhole := hstage0_1 ((cfg0.slots t 1).cast nbuf0_1)
/-- The staging buffer of window 2 is a whole buffer. -/
abbrev hst2 (t : Fin cfg0.N) : (st0_2 t).IsWhole := hstage0_2 ((cfg0.slots t 2).cast nbuf0_2)
/-- The staging buffer of window 3 is a whole buffer. -/
abbrev hst3 (t : Fin cfg0.N) : (st0_3 t).IsWhole := hstage0_3 ((cfg0.slots t 3).cast nbuf0_3)

/-! ## Which grid step is the first and which the last -/

/-- A grid step's coordinate is its number. -/
theorem coord_val (t : Fin cfg0.N) : (grid0.coords t 0).val = t.val := by
  have h : t.val < 176 := t.isLt
  exact (Pipeline.Grid.coords_val t (0 : Fin 1) (S := 1) (B := 176) rfl rfl).trans (by omega)

/-- The first guard holds at step 0 alone. -/
theorem cond1_iff (t : Fin cfg0.N) : cond1 (grid0.coords t) = 1#1 ↔ t.val = 0 := by
  have h : ∀ n : Fin 176, Scalar.cmpi .ne (Scalar.extui (Scalar.cmpi .eq (BitVec.ofNat 32 n.val) 0#32)) 0#32 = (1#1 : BitVec 1) ↔ n.val = 0 := by decide
  have := h ⟨t.val, t.isLt⟩
  unfold cond1; rw [coord_val]; exact this

/-- The last guard holds at step 175 alone. -/
theorem cond2_iff (t : Fin cfg0.N) : k0_cond2 (grid0.coords t) = 1#1 ↔ t.val = 175 := by
  have h : ∀ n : Fin 176, Scalar.cmpi .ne (Scalar.extui (Scalar.cmpi .eq (BitVec.ofNat 32 n.val) 175#32)) 0#32 = (1#1 : BitVec 1) ↔ n.val = 175 := by decide
  have := h ⟨t.val, t.isLt⟩
  unfold k0_cond2; rw [coord_val]; exact this

/-! ## What a run may say of the state and of the result -/

/-- Facts on the state and the result that the grid steps keep: `SI c n X` of the state `X` before grid step `n`, `RI c X` of
    the result `X`. The first step gives `SI c 1`, a middle step takes `SI c n` to `SI c (n+1)`, the last gives `RI c`. -/
structure Keeps (SI : Dev nD → ℕ → Vec F S20x8x1024 .f32 → Prop) (RI : Dev nD → Vec F S20x1024 .f32 → Prop) : Prop where
  first : ∀ (c : Dev nD) (t : Fin cfg0.N) f1 f2 f3, t.val = 0 →
    (st0_0 t).view.read (Elt F) f1 = iblk m c 0 t → (st0_1 t).view.read (Elt F) f2 = iblk m c 1 t → (st0_2 t).view.read (Elt F) f3 = iblk m c 2 t →
    SI c 1 (scr0.view.read (Elt F) (stateAt c (grid0.coords t) (st0_0 t) (hst0 t) (st0_1 t) (hst1 t) (st0_2 t) (hst2 t) (st0_3 t) (hst3 t)
      scr0 (Memref.isWhole_whole _) scr1 (Memref.isWhole_whole _) scr2 (Memref.isWhole_whole _) f1 f2 f3 (stateInit scr0) 8))
  mid : ∀ (c : Dev nD) (t : Fin cfg0.N) f1 f2 f3 f5, 0 < t.val → t.val < 175 →
    (st0_0 t).view.read (Elt F) f1 = iblk m c 0 t → (st0_1 t).view.read (Elt F) f2 = iblk m c 1 t → (st0_2 t).view.read (Elt F) f3 = iblk m c 2 t →
    SI c t.val (scr0.view.read (Elt F) f5) →
    SI c (t.val + 1) (scr0.view.read (Elt F) (stateAt c (grid0.coords t) (st0_0 t) (hst0 t) (st0_1 t) (hst1 t) (st0_2 t) (hst2 t) (st0_3 t) (hst3 t)
      scr0 (Memref.isWhole_whole _) scr1 (Memref.isWhole_whole _) scr2 (Memref.isWhole_whole _) f1 f2 f3 f5 8))
  last : ∀ (c : Dev nD) (t : Fin cfg0.N) f1 f2 f3 f4 f5 h1 h2, t.val = 175 →
    (st0_0 t).view.read (Elt F) f1 = iblk m c 0 t → (st0_1 t).view.read (Elt F) f2 = iblk m c 1 t → (st0_2 t).view.read (Elt F) f3 = iblk m c 2 t →
    SI c 175 (scr0.view.read (Elt F) f5) →
    RI c ((st0_3 t).view.read (Elt F) ((st0_3 t).view.writes (Elt F) f4
      (lastRun c (grid0.coords t) (st0_0 t) (hst0 t) (st0_1 t) (hst1 t) (st0_2 t) (hst2 t) (st0_3 t) (hst3 t)
      scr0 (Memref.isWhole_whole _) scr1 (Memref.isWhole_whole _) scr2 (Memref.isWhole_whole _) f1 f2 f3 f5 h1 h2).1))

variable (SI : Dev nD → ℕ → Vec F S20x8x1024 .f32 → Prop) (RI : Dev nD → Vec F S20x1024 .f32 → Prop)

/-- The scratches between grid steps: the state at something that `SI` says, the two staging scratches at anything. -/
def inv (c : Dev nD) (n : ℕ) : sProp 𝕄 :=
  iprop((∃ f5, ⌜0 < n → n < 176 → SI c n (scr0.view.read (Elt F) f5)⌝ ∗ pt c scr0 f5)
    ∗ (∃ f, pt c scr1 f) ∗ (∃ f, pt c scr2 f) ∗ (∃ r, prngReg c r))

/-- The pipeline's proof data: the inputs' buffers at their blocks after each step, the scratches at `inv`. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => fun _ => Classical.arbitrary _
  Φ t := inv SI c t.val
  q _ := fullShare
  owed _ := 0

/-- The result's window is the one of which only a relation is said. -/
def fgt (w : Fin cfg0.W) : Bool := match w with
  | ⟨0, _⟩ => false
  | ⟨1, _⟩ => false
  | ⟨2, _⟩ => false
  | ⟨3, _⟩ => true

/-- At the last step the result's buffer is left at something that `RI` says. -/
def Rl (c : Dev nD) (w : Fin cfg0.W) (t : Fin cfg0.N) : ((cfg0.win w).block.Idx → Elt F (cfg0.win w).elt) → Prop := match w with
  | ⟨0, _⟩ => fun _ => True
  | ⟨1, _⟩ => fun _ => True
  | ⟨2, _⟩ => fun _ => True
  | ⟨3, _⟩ => fun X => t.val = 175 → RI c X

/-- The arrays are what the host operations left. -/
theorem A_eq (c : Dev nD) (w : Fin cfg0.W) : (dats m SI c).A w = V m c (Pipeline.arrRef spec0 w) := by dsimp only [dats]
/-- After a step window 0 is at its block. -/
theorem after_0 (c : Dev nD) (t : Fin cfg0.N) : (dats m SI c).after 0 t = iblk m c 0 t := by dsimp only [dats]
/-- After a step window 1 is at its block. -/
theorem after_1 (c : Dev nD) (t : Fin cfg0.N) : (dats m SI c).after 1 t = iblk m c 1 t := by dsimp only [dats]
/-- After a step window 2 is at its block. -/
theorem after_2 (c : Dev nD) (t : Fin cfg0.N) : (dats m SI c).after 2 t = iblk m c 2 t := by dsimp only [dats]
/-- Before a step window 0 is at its block. -/
theorem before_0 (c : Dev nD) (t : Fin cfg0.N) (d) : (dats m SI c).before 0 t d = iblk m c 0 t :=
  before0_0_of m (dats m SI c) (A_eq m SI c 0) (after_0 m SI c) t d
/-- Before a step window 1 is at its block. -/
theorem before_1 (c : Dev nD) (t : Fin cfg0.N) (d) : (dats m SI c).before 1 t d = iblk m c 1 t :=
  before0_1_of m (dats m SI c) (A_eq m SI c 1) (after_1 m SI c) t d
/-- Before a step window 2 is at its block. -/
theorem before_2 (c : Dev nD) (t : Fin cfg0.N) (d) : (dats m SI c).before 2 t d = iblk m c 2 t :=
  before0_2_of m (dats m SI c) (A_eq m SI c 2) (after_2 m SI c) t d

/-! ## The body at one grid step -/

/-- What the body is called with at step `t`, -/
def bodyPre (c : Dev nD) (t : Fin cfg0.N) : sProp 𝕄 :=
  iprop(inv SI c t.val ∗ (dats m SI c).owesAt () t.castSucc
    ∗ (∃ d, owns (c : Thread nD τ) (st0_0 t) fullShare ((dats m SI c).before 0 t d))
    ∗ (∃ d, owns (c : Thread nD τ) (st0_1 t) fullShare ((dats m SI c).before 1 t d))
    ∗ (∃ d, owns (c : Thread nD τ) (st0_2 t) fullShare ((dats m SI c).before 2 t d))
    ∗ (∃ Y, ⌜((dats m SI c).toRRel fgt (Rl RI c)).Finds 3 t Y⌝ ∗ owns (c : Thread nD τ) (st0_3 t) fullShare Y))

/-- and what it returns. -/
def bodyPost (c : Dev nD) (t : Fin cfg0.N) : sProp 𝕄 :=
  iprop(inv SI c (t.val + 1) ∗ (dats m SI c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ (∃ X, ⌜Rl RI c 3 t X⌝ ∗ owns (c : Thread nD τ) (st0_3 t) fullShare X))

/-- The body's triple at any step, the steps keeping `SI` and `RI`. -/
theorem sound_body (hK : Keeps m SI RI) (c : Dev nD) (t : Fin cfg0.N) :
    bodyPre m SI RI c t ⊢ wp frame (wpE (defs₀ (F := F)) Variants.none c none) Set.univ (bodyAt0 t) (fun _ => bodyPost m SI RI c t) := by
  have ht : t.val < 176 := t.isLt
  unfold bodyPre bodyPost bodyAt0 inv
  simp only [before_0, before_1, before_2]
  unfold owns
  iintro ⟨⟨⟨%f5, %hS, H5⟩, ⟨%f6, H6⟩, ⟨%f7, H7⟩, Hr⟩, Ho, ⟨%d0, %f1, %hf1, H1⟩, ⟨%d1, %f2, %hf2, H2⟩, ⟨%d2, %f3, %hf3, H3⟩, ⟨%Y, %hY, %f4, %hf4, H4⟩⟩
  by_cases h0 : t.val = 0
  · have h1 := (cond1_iff t).mpr h0
    have h2 : ¬ k0_cond2 (grid0.coords t) = 1#1 := fun h => by have := (cond2_iff t).mp h; omega
    iapply (wp_wand_r Idealize.ShloMosaic.frame _ Set.univ)
    isplitl [H1 H2 H3 H4 H5 H6 H7]
    · iapply (firstRun c (grid0.coords t) (st0_0 t) (hst0 t) (st0_1 t) (hst1 t) (st0_2 t) (hst2 t) (st0_3 t) (hst3 t) scr0 (Memref.isWhole_whole _) scr1 (Memref.isWhole_whole _) scr2 (Memref.isWhole_whole _) f1 f2 f3 f4 f5 f6 f7 h1 h2)
      isplitl [H1]; · iexact H1
      isplitl [H2]; · iexact H2
      isplitl [H3]; · iexact H3
      isplitl [H4]; · iexact H4
      isplitl [H5]; · iexact H5
      isplitl [H6]; · iexact H6
      iexact H7
    iintro %_ ⟨H1, H2, H3, H4, H5, ⟨%g6, H6⟩, ⟨%g7, H7⟩⟩
    isplitl [H5 H6 H7 Hr]
    · isplitl [H5]
      · iexists _; isplitr
        swap; · iexact H5
        ipureintro; exact fun _ _ => by rw [h0]; exact hK.first c t f1 f2 f3 h0 hf1 hf2 hf3
      isplitl [H6]; · iexists _; iexact H6
      isplitl [H7]; · iexists _; iexact H7
      iexact Hr
    isplitl [Ho]; · iexact Ho
    isplitl [H1]
    · iexists _; isplitr
      swap; · iexact H1
      ipureintro; exact hf1
    isplitl [H2]
    · iexists _; isplitr
      swap; · iexact H2
      ipureintro; exact hf2
    isplitl [H3]
    · iexists _; isplitr
      swap; · iexact H3
      ipureintro; exact hf3
    iexists _; isplitr
    swap
    · iexists _; isplitr
      swap; · iexact H4
      ipureintro; rfl
    ipureintro; exact fun h => absurd h (by omega)
  have h1 : ¬ cond1 (grid0.coords t) = 1#1 := fun h => h0 ((cond1_iff t).mp h)
  by_cases h175 : t.val = 175
  · have h2 := (cond2_iff t).mpr h175
    iapply (wp_wand_r Idealize.ShloMosaic.frame _ Set.univ)
    isplitl [H1 H2 H3 H4 H5 H6 H7]
    · iapply ((lastRun c (grid0.coords t) (st0_0 t) (hst0 t) (st0_1 t) (hst1 t) (st0_2 t) (hst2 t) (st0_3 t) (hst3 t) scr0 (Memref.isWhole_whole _) scr1 (Memref.isWhole_whole _) scr2 (Memref.isWhole_whole _) f1 f2 f3 f5 h1 h2).2 f4 f6 f7)
      isplitl [H1]; · iexact H1
      isplitl [H2]; · iexact H2
      isplitl [H3]; · iexact H3
      isplitl [H4]; · iexact H4
      isplitl [H5]; · iexact H5
      isplitl [H6]; · iexact H6
      iexact H7
    iintro %_ ⟨H1, H2, H3, H4, H5, ⟨%g6, H6⟩, ⟨%g7, H7⟩⟩
    isplitl [H5 H6 H7 Hr]
    · isplitl [H5]
      · iexists _; isplitr
        swap; · iexact H5
        ipureintro; exact fun _ h => absurd h (by omega)
      isplitl [H6]; · iexists _; iexact H6
      isplitl [H7]; · iexists _; iexact H7
      iexact Hr
    isplitl [Ho]; · iexact Ho
    isplitl [H1]
    · iexists _; isplitr
      swap; · iexact H1
      ipureintro; exact hf1
    isplitl [H2]
    · iexists _; isplitr
      swap; · iexact H2
      ipureintro; exact hf2
    isplitl [H3]
    · iexists _; isplitr
      swap; · iexact H3
      ipureintro; exact hf3
    iexists _; isplitr
    swap
    · iexists _; isplitr
      swap; · iexact H4
      ipureintro; rfl
    ipureintro; exact fun _ => hK.last c t f1 f2 f3 f4 f5 h1 h2 h175 hf1 hf2 hf3 (by rw [← h175]; exact hS (by omega) ht)
  · have h2 : ¬ k0_cond2 (grid0.coords t) = 1#1 := fun h => h175 ((cond2_iff t).mp h)
    iapply (wp_wand_r Idealize.ShloMosaic.frame _ Set.univ)
    isplitl [H1 H2 H3 H4 H5 H6 H7]
    · iapply (midRun c (grid0.coords t) (st0_0 t) (hst0 t) (st0_1 t) (hst1 t) (st0_2 t) (hst2 t) (st0_3 t) (hst3 t) scr0 (Memref.isWhole_whole _) scr1 (Memref.isWhole_whole _) scr2 (Memref.isWhole_whole _) f1 f2 f3 f4 f5 f6 f7 h1 h2)
      isplitl [H1]; · iexact H1
      isplitl [H2]; · iexact H2
      isplitl [H3]; · iexact H3
      isplitl [H4]; · iexact H4
      isplitl [H5]; · iexact H5
      isplitl [H6]; · iexact H6
      iexact H7
    iintro %_ ⟨H1, H2, H3, H4, H5, ⟨%g6, H6⟩, ⟨%g7, H7⟩⟩
    isplitl [H5 H6 H7 Hr]
    · isplitl [H5]
      · iexists _; isplitr
        swap; · iexact H5
        ipureintro; exact fun _ _ => hK.mid c t f1 f2 f3 f5 (by omega) (by omega) hf1 hf2 hf3 (hS (by omega) ht)
      isplitl [H6]; · iexists _; iexact H6
      isplitl [H7]; · iexists _; iexact H7
      iexact Hr
    isplitl [Ho]; · iexact Ho
    isplitl [H1]
    · iexists _; isplitr
      swap; · iexact H1
      ipureintro; exact hf1
    isplitl [H2]
    · iexists _; isplitr
      swap; · iexact H2
      ipureintro; exact hf2
    isplitl [H3]
    · iexists _; isplitr
      swap; · iexact H3
      ipureintro; exact hf3
    iexists _; isplitr
    swap
    · iexists _; isplitr
      swap; · iexact H4
      ipureintro; rfl
    ipureintro; exact fun h => absurd h h175

/-- The body table's row at step `t` is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every step. -/
theorem body_obligation (hK : Keeps m SI RI) (c : Dev nD) :
    BodyObligationRel (dats m SI c) (defs₀ (F := F)) Variants.none () Set.univ fgt (Rl RI c) := fun t => by
  rw [bigSep_W0, bigSep_W0, defs₀_row]
  exact triple_restated (sound_body m SI RI hK c t) rfl .rfl fun _ => .rfl

/-! ## The run -/

/-- The state scratch, owned as a buffer or as a reference. -/
theorem pt_scr0 (c : Dev nD) (f : Buf (Elt F) ((c : Thread nD τ).loc cc0_scratch0)) :
    (pt c scr0 f : sProp 𝕄) = (((c : Thread nD τ).loc cc0_scratch0) ↦{fullShare} f) := by
  unfold pt; rw [(Memref.isWhole_whole cc0_scratch0).set_eq_univ]

/-- The scratch of the scales, owned as a buffer or as a reference. -/
theorem pt_scr1 (c : Dev nD) (f : Buf (Elt F) ((c : Thread nD τ).loc cc0_scratch1)) :
    (pt c scr1 f : sProp 𝕄) = (((c : Thread nD τ).loc cc0_scratch1) ↦{fullShare} f) := by
  unfold pt; rw [(Memref.isWhole_whole cc0_scratch1).set_eq_univ]

/-- The scratch of the products, owned as a buffer or as a reference. -/
theorem pt_scr2 (c : Dev nD) (f : Buf (Elt F) ((c : Thread nD τ).loc cc0_scratch2)) :
    (pt c scr2 f : sProp 𝕄) = (((c : Thread nD τ).loc cc0_scratch2) ↦{fullShare} f) := by
  unfold pt; rw [(Memref.isWhole_whole cc0_scratch2).set_eq_univ]

/-- The scratches as allocated satisfy the invariant before the first step. -/
theorem inv_in (c : Dev nD) : Pipeline.ΦA spec0 c ⊢ (inv SI c 0 : sProp 𝕄) := by
  unfold Pipeline.ΦA inv
  rw [scopedRest0_eq]
  iintro ⟨⟨⟨%f0, H0⟩, ⟨%g1, H1⟩, ⟨%g2, H2⟩⟩, Hr⟩
  isplitl [H0]
  · iexists f0; isplitr
    · ipureintro; exact fun h => absurd h (by omega)
    rw [pt_scr0]; iexact H0
  isplitl [H1]; · iexists g1; rw [pt_scr1]; iexact H1
  isplitl [H2]; · iexists g2; rw [pt_scr2]; iexact H2
  iexact Hr

/-- After the last step the scratches are given back. -/
theorem inv_out (c : Dev nD) : (inv SI c 176 : sProp 𝕄) ⊢ Pipeline.ΦA spec0 c := by
  unfold Pipeline.ΦA inv
  rw [scopedRest0_eq]
  iintro ⟨⟨%f0, -, H0⟩, ⟨%g1, H1⟩, ⟨%g2, H2⟩, Hr⟩
  isplitl [H0 H1 H2]
  · isplitl [H0]; · iexists f0; rw [← pt_scr0]; iexact H0
    isplitl [H1]; · iexists g1; rw [← pt_scr1]; iexact H1
    iexists g2; rw [← pt_scr2]; iexact H2
  iexact Hr

/-- The result at the end, on each core, is something that `RI` says. -/
def Post (r : PUnit × MemSt nD τ sig (Elt F)) : Prop :=
  (∀ c : Dev nD, (∃ X, RI c X ∧ ∀ j : S20x1024.Idx, r.2.mem ((c.tc : Thread nD τ).loc main_v2) j = X j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0

/-- The last step writes the result's window back whole. -/
theorem whole3 : (cfg0.win 3).WholeAt (⟨175, by decide⟩ : Fin cfg0.N) := by
  refine ⟨(flush0_3 _).mpr rfl, fun t h => Fin.ext ?_, fun a => ?_⟩
  · have := (flush0_3 t).mp h; have h' : t.val < 176 := t.isLt; show t.val = 175; omega
  · revert a; decide

/-- What the launch leaves, as `Post`. -/
theorem post_of (r : PUnit × MemSt nD τ sig (Elt F))
    (h : RDat.FramePost cfg0 (fun c => (dats m SI c).toRRel fgt (Rl RI c)) (V m) r) (hs : r.2.sem = fun _ => 0) : Post m RI r := by
  refine ⟨fun c => ⟨?_, ?_, ?_, ?_⟩, hs⟩
  · obtain ⟨X, ⟨_, _, hX⟩, hj⟩ := ((h c).1 3).emb_eq_of_wholeAt whole3
    exact ⟨X, hX rfl, fun j => hj j⟩
  · exact ((h c).2 main_arg0 (Pipeline.mem_restRefs_of main_arg0 (by decide) (by decide))).trans (V_main_arg0 m c)
  · exact (h.arr_in c 1 rfl).trans ((A_eq m SI c 1).trans (V_main_arg1 m c))
  · exact ((h c).2 main_arg2 (Pipeline.mem_restRefs_of main_arg2 (by decide) (by decide))).trans (V_main_arg2 m c)

set_option backward.isDefEq.respectTransparency.types false in
/-- The whole program runs to its end, every counter back at zero, its arguments unchanged, its result at something that
    `RI` says. -/
theorem run (hK : Keeps m SI RI) : θ_run defs (onTc (τ := τ) (main (F := F))) ⟨m, fun _ => 0, ρ⟩ (Post m RI) :=
  RDat.θ_run_frame_track cfgs (0 : Fin 1) launch0 defs₀ Variants.none (fun c => (dats m SI c).toRRel fgt (Rl RI c)) m ρ main
    (hbody := fun c => (body_obligation m SI RI hK c).toRRel)
    (hshare := fun c => (dats m SI c).share_full fun _ => rfl) (howed := fun _ _ => rfl)
    (V := V m) (hmain := hmain m Variants.none) (hA := A_eq m SI)
    (hin := inv_in SI) (hout := inv_out SI)
    (Q' := Post m RI) (hQ' := fun r h => post_of m SI RI r h.1 h.2)

/-- `run` with nothing said of the state or of the result. -/
theorem keeps_true : Keeps m (fun _ _ _ => True) (fun _ _ => True) :=
  ⟨fun _ _ _ _ _ _ _ _ _ => trivial, fun _ _ _ _ _ _ _ _ _ _ _ _ => trivial, fun _ _ _ _ _ _ _ _ _ _ _ _ _ _ => trivial⟩

/-- THE FRAME: the program runs to its end, its arguments unchanged and every counter back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run m ρ _ _ (keeps_true m))

end Cert.Kernel.Hand
-- ==== Proof.Trip.lean ====
module

public import proofs.«01_k».proof.Proof.Gen.KernelIdeal.Loops
public import Idealize.ShloMosaic.Lib.Tactic
public import Idealize.ShloMosaic.Lib.Pipeline.Kit

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- A memref's buffer held at contents `f`. -/
abbrev pt (c : Dev nD) {S : Shape} {e : EltTy} (M : Memref sig .tc .vmem S e) (f : BufTy.Contents (Elt F) M.view.ty) : sProp 𝕄G :=
  M.view.loc (c : Thread nD τ) ↦[M.view.set]{fullShare} f

/-- One trip of the block loop: the stores it makes on the state, and that it runs to its end with them. -/
@[irreducible] def trip (c : Dev nD) (i : grid0.Coords) (arg1 : Memref sig .tc .vmem S1024x1024 .bf16) (harg1 : arg1.IsWhole) (arg2 : Memref sig .tc .vmem S2048x1024 .i8) (harg2 : arg2.IsWhole) (arg3 : Memref sig .tc .vmem S1x16x128 .f32) (harg3 : arg3.IsWhole) (arg4 : Memref sig .tc .vmem S20x1024 .f32) (harg4 : arg4.IsWhole) (arg5 : Memref sig .tc .vmem S20x8x1024 .f32) (harg5 : arg5.IsWhole) (arg6 : Memref sig .tc .vmem S256x128 .f32) (harg6 : arg6.IsWhole) (arg7 : Memref sig .tc .vmem S256x256 .f32) (harg7 : arg7.IsWhole)
    (f1 : BufTy.Contents (Elt F) arg1.view.ty) (f2 : BufTy.Contents (Elt F) arg2.view.ty) (f3 : BufTy.Contents (Elt F) arg3.view.ty)
    (f5 : BufTy.Contents (Elt F) arg5.view.ty) (k : Fin k0_t1_loop.trips) :
    { L : List (View.Piece (Elt F) S20x8x1024 .f32) //
      ∀ (f6 : BufTy.Contents (Elt F) arg6.view.ty) (f7 : BufTy.Contents (Elt F) arg7.view.ty) E,
      iprop(pt c arg1 f1 ∗ pt c arg2 f2 ∗ pt c arg3 f3 ∗ pt c arg5 f5 ∗ pt c arg6 f6 ∗ pt c arg7 f7)
      ⊢ wp frame (wpE (defs₀ (F := F)) Variants.none (c : Thread nD τ) none) E (k0_t1_body (F := F) i arg1 harg1 arg2 harg2 arg3 harg3 arg4 harg4 arg5 harg5 arg6 harg6 arg7 harg7 k ())
          (fun _ => iprop(pt c arg1 f1 ∗ pt c arg2 f2 ∗ pt c arg3 f3 ∗ pt c arg5 (View.writes arg5.view (Elt F) f5 L)
            ∗ (∃ f, pt c arg6 f) ∗ (∃ f, pt c arg7 f))) } := by
  have hk : k.val < 8 := Nat.lt_of_lt_of_le k.isLt k0_t1_abs.2.1
  refine ⟨?_, fun f6 f7 E => ?run⟩
  case run =>
    unfold k0_t1_body
    iintro ⟨H1, H2, H3, H5, H6, H7⟩
    sl_exec
    sl_step
    isplitl [H1]; · iexact H1
    isplitl [H2]; · iexact H2
    isplitl [H3]; · iexact H3
    isplitl [H5]; · iexact H5
    isplitl [H6]; · iexists _; iexact H6
    iexists _; iexact H7

end Cert.KernelIdeal.Hand
-- ==== Proof.Body.lean ====
module

public import proofs.«01_k».proof.Proof.Trip

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The state scratch before trip `n` of the block loop, from its contents `f5` before the loop: each trip's
    stores written over what the trip before left. -/
def stateAt (c : Dev nD) (i : grid0.Coords) (arg1 : Memref sig .tc .vmem S1024x1024 .bf16) (harg1 : arg1.IsWhole) (arg2 : Memref sig .tc .vmem S2048x1024 .i8) (harg2 : arg2.IsWhole) (arg3 : Memref sig .tc .vmem S1x16x128 .f32) (harg3 : arg3.IsWhole) (arg4 : Memref sig .tc .vmem S20x1024 .f32) (harg4 : arg4.IsWhole) (arg5 : Memref sig .tc .vmem S20x8x1024 .f32) (harg5 : arg5.IsWhole) (arg6 : Memref sig .tc .vmem S256x128 .f32) (harg6 : arg6.IsWhole) (arg7 : Memref sig .tc .vmem S256x256 .f32) (harg7 : arg7.IsWhole)
    (f1 : BufTy.Contents (Elt F) arg1.view.ty) (f2 : BufTy.Contents (Elt F) arg2.view.ty) (f3 : BufTy.Contents (Elt F) arg3.view.ty)
    (f5 : BufTy.Contents (Elt F) arg5.view.ty) : ℕ → BufTy.Contents (Elt F) arg5.view.ty
  | 0 => f5
  | n + 1 => if h : n < k0_t1_loop.trips then
      arg5.view.writes (Elt F) (stateAt c i arg1 harg1 arg2 harg2 arg3 harg3 arg4 harg4 arg5 harg5 arg6 harg6 arg7 harg7 f1 f2 f3 f5 n) (trip c i arg1 harg1 arg2 harg2 arg3 harg3 arg4 harg4 arg5 harg5 arg6 harg6 arg7 harg7 f1 f2 f3 (stateAt c i arg1 harg1 arg2 harg2 arg3 harg3 arg4 harg4 arg5 harg5 arg6 harg6 arg7 harg7 f1 f2 f3 f5 n) ⟨n, h⟩).1
    else stateAt c i arg1 harg1 arg2 harg2 arg3 harg3 arg4 harg4 arg5 harg5 arg6 harg6 arg7 harg7 f1 f2 f3 f5 n

/-- One trip further. -/
theorem stateAt_succ (c : Dev nD) (i : grid0.Coords) (arg1 : Memref sig .tc .vmem S1024x1024 .bf16) (harg1 : arg1.IsWhole) (arg2 : Memref sig .tc .vmem S2048x1024 .i8) (harg2 : arg2.IsWhole) (arg3 : Memref sig .tc .vmem S1x16x128 .f32) (harg3 : arg3.IsWhole) (arg4 : Memref sig .tc .vmem S20x1024 .f32) (harg4 : arg4.IsWhole) (arg5 : Memref sig .tc .vmem S20x8x1024 .f32) (harg5 : arg5.IsWhole) (arg6 : Memref sig .tc .vmem S256x128 .f32) (harg6 : arg6.IsWhole) (arg7 : Memref sig .tc .vmem S256x256 .f32) (harg7 : arg7.IsWhole)
    (f1 : BufTy.Contents (Elt F) arg1.view.ty) (f2 : BufTy.Contents (Elt F) arg2.view.ty) (f3 : BufTy.Contents (Elt F) arg3.view.ty)
    (f5 : BufTy.Contents (Elt F) arg5.view.ty) (k : Fin k0_t1_loop.trips) :
    stateAt c i arg1 harg1 arg2 harg2 arg3 harg3 arg4 harg4 arg5 harg5 arg6 harg6 arg7 harg7 f1 f2 f3 f5 (k.val + 1)
      = arg5.view.writes (Elt F) (stateAt c i arg1 harg1 arg2 harg2 arg3 harg3 arg4 harg4 arg5 harg5 arg6 harg6 arg7 harg7 f1 f2 f3 f5 k) (trip c i arg1 harg1 arg2 harg2 arg3 harg3 arg4 harg4 arg5 harg5 arg6 harg6 arg7 harg7 f1 f2 f3 (stateAt c i arg1 harg1 arg2 harg2 arg3 harg3 arg4 harg4 arg5 harg5 arg6 harg6 arg7 harg7 f1 f2 f3 f5 k) k).1 := by
  rw [stateAt.eq_2]; exact dif_pos k.isLt

/-- The block loop's invariant: the operands as they were, the state at `stateAt`, the two staging scratches at anything. -/
@[sl_loop] def loopInv_k0_t1 (c : Dev nD) (i : grid0.Coords) (arg1 : Memref sig .tc .vmem S1024x1024 .bf16) (harg1 : arg1.IsWhole) (arg2 : Memref sig .tc .vmem S2048x1024 .i8) (harg2 : arg2.IsWhole) (arg3 : Memref sig .tc .vmem S1x16x128 .f32) (harg3 : arg3.IsWhole) (arg4 : Memref sig .tc .vmem S20x1024 .f32) (harg4 : arg4.IsWhole) (arg5 : Memref sig .tc .vmem S20x8x1024 .f32) (harg5 : arg5.IsWhole) (arg6 : Memref sig .tc .vmem S256x128 .f32) (harg6 : arg6.IsWhole) (arg7 : Memref sig .tc .vmem S256x256 .f32) (harg7 : arg7.IsWhole)
    (f1 : BufTy.Contents (Elt F) arg1.view.ty) (f2 : BufTy.Contents (Elt F) arg2.view.ty) (f3 : BufTy.Contents (Elt F) arg3.view.ty)
    (f5 : BufTy.Contents (Elt F) arg5.view.ty) :
    LoopInvTy_k0_t1 (F := F) Unit ℕ (UR sig nD τ) ℕ Variants.none c none Set.univ i arg1 harg1 arg2 harg2 arg3 harg3 arg4 harg4 arg5 harg5 arg6 harg6 arg7 harg7 where
  inv n _ := iprop(pt c arg1 f1 ∗ pt c arg2 f2 ∗ pt c arg3 f3 ∗ pt c arg5 (stateAt c i arg1 harg1 arg2 harg2 arg3 harg3 arg4 harg4 arg5 harg5 arg6 harg6 arg7 harg7 f1 f2 f3 f5 n)
      ∗ (∃ f, pt c arg6 f) ∗ (∃ f, pt c arg7 f))
  step k _ := by
    rw [stateAt_succ]
    iintro ⟨H1, H2, H3, H5, ⟨%f6, H6⟩, ⟨%f7, H7⟩⟩
    iapply (trip c i arg1 harg1 arg2 harg2 arg3 harg3 arg4 harg4 arg5 harg5 arg6 harg6 arg7 harg7 f1 f2 f3 _ k).2 f6 f7
    isplitl [H1]; · iexact H1
    isplitl [H2]; · iexact H2
    isplitl [H3]; · iexact H3
    isplitl [H5]; · iexact H5
    isplitl [H6]; · iexact H6
    iexact H7

/-- The guard of the first grid step: `pid = 0`. -/
abbrev cond1 (i : grid0.Coords) : BitVec 1 := Scalar.cmpi .ne (Scalar.extui (Scalar.cmpi .eq (BitVec.ofNat 32 (i 0).val) 0#32)) 0#32

/-- The last grid step's stores to the result, the state being `f5` before the step. -/
@[irreducible] def lastRun (c : Dev nD) (i : grid0.Coords) (arg1 : Memref sig .tc .vmem S1024x1024 .bf16) (harg1 : arg1.IsWhole) (arg2 : Memref sig .tc .vmem S2048x1024 .i8) (harg2 : arg2.IsWhole) (arg3 : Memref sig .tc .vmem S1x16x128 .f32) (harg3 : arg3.IsWhole) (arg4 : Memref sig .tc .vmem S20x1024 .f32) (harg4 : arg4.IsWhole) (arg5 : Memref sig .tc .vmem S20x8x1024 .f32) (harg5 : arg5.IsWhole) (arg6 : Memref sig .tc .vmem S256x128 .f32) (harg6 : arg6.IsWhole) (arg7 : Memref sig .tc .vmem S256x256 .f32) (harg7 : arg7.IsWhole)
    (f1 : BufTy.Contents (Elt F) arg1.view.ty) (f2 : BufTy.Contents (Elt F) arg2.view.ty) (f3 : BufTy.Contents (Elt F) arg3.view.ty)
    (f5 : BufTy.Contents (Elt F) arg5.view.ty) (h1 : ¬ cond1 i = 1#1) (h2 : k0_cond2 i = 1#1) :
    { L : List (View.Piece (Elt F) S20x1024 .f32) //
      ∀ (f4 : BufTy.Contents (Elt F) arg4.view.ty) (f6 : BufTy.Contents (Elt F) arg6.view.ty) (f7 : BufTy.Contents (Elt F) arg7.view.ty),
      iprop(pt c arg1 f1 ∗ pt c arg2 f2 ∗ pt c arg3 f3 ∗ pt c arg4 f4 ∗ pt c arg5 f5 ∗ pt c arg6 f6 ∗ pt c arg7 f7)
      ⊢ wp frame (wpE (defs₀ (F := F)) Variants.none (c : Thread nD τ) none) Set.univ (cc0_topk_exact (F := F) i arg1 harg1 arg2 harg2 arg3 harg3 arg4 harg4 arg5 harg5 arg6 harg6 arg7 harg7)
          (fun _ => iprop(pt c arg1 f1 ∗ pt c arg2 f2 ∗ pt c arg3 f3 ∗ pt c arg4 (arg4.view.writes (Elt F) f4 L)
            ∗ pt c arg5 (stateAt c i arg1 harg1 arg2 harg2 arg3 harg3 arg4 harg4 arg5 harg5 arg6 harg6 arg7 harg7 f1 f2 f3 f5 8)
            ∗ (∃ f, pt c arg6 f) ∗ (∃ f, pt c arg7 f))) } := by
  refine ⟨?_, fun f4 f6 f7 => ?run⟩
  case run =>
    simp only [cc0_topk_exact_eq_skeleton]; unfold cc0_topk_exact_skel
    iintro ⟨H1, H2, H3, H4, H5, H6, H7⟩
    sl_exec
    sl_step
    isplitl [H1]; · iexact H1
    isplitl [H2]; · iexact H2
    isplitl [H3]; · iexact H3
    isplitl [H4]; · iexact H4
    isplitl [H5]; · iexact H5
    isplitl [H6]; · iexists _; iexact H6
    iexists _; iexact H7

end Cert.KernelIdeal.Hand
-- ==== Proof.Steps.lean ====
module

public import proofs.«01_k».proof.Proof.Body

@[expose] public section

set_option maxRecDepth 16384
set_option maxHeartbeats 800000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The state once the first grid step has filled it with `-inf`. -/
abbrev stateInit (arg5 : Memref sig .tc .vmem S20x8x1024 .f32) : BufTy.Contents (Elt F) arg5.view.ty :=
  arg5.view.writes (Elt F) arg5.view.junk [⟨Rect.unit ![0, 0, 0] S20x8x1024.size inb_S20x8x1024_S20x8x1024_0_0_0, k0_pay1⟩]

/-- The first grid step: the state is filled with `-inf`, then the block loop runs. -/
theorem firstRun (c : Dev nD) (i : grid0.Coords) (arg1 : Memref sig .tc .vmem S1024x1024 .bf16) (harg1 : arg1.IsWhole) (arg2 : Memref sig .tc .vmem S2048x1024 .i8) (harg2 : arg2.IsWhole) (arg3 : Memref sig .tc .vmem S1x16x128 .f32) (harg3 : arg3.IsWhole) (arg4 : Memref sig .tc .vmem S20x1024 .f32) (harg4 : arg4.IsWhole) (arg5 : Memref sig .tc .vmem S20x8x1024 .f32) (harg5 : arg5.IsWhole) (arg6 : Memref sig .tc .vmem S256x128 .f32) (harg6 : arg6.IsWhole) (arg7 : Memref sig .tc .vmem S256x256 .f32) (harg7 : arg7.IsWhole)
    (f1 : BufTy.Contents (Elt F) arg1.view.ty) (f2 : BufTy.Contents (Elt F) arg2.view.ty) (f3 : BufTy.Contents (Elt F) arg3.view.ty)
    (f4 : BufTy.Contents (Elt F) arg4.view.ty) (f5 : BufTy.Contents (Elt F) arg5.view.ty) (f6 : BufTy.Contents (Elt F) arg6.view.ty) (f7 : BufTy.Contents (Elt F) arg7.view.ty)
    (h1 : cond1 i = 1#1) (h2 : ¬ k0_cond2 i = 1#1) :
      iprop(pt c arg1 f1 ∗ pt c arg2 f2 ∗ pt c arg3 f3 ∗ pt c arg4 f4 ∗ pt c arg5 f5 ∗ pt c arg6 f6 ∗ pt c arg7 f7)
      ⊢ wp frame (wpE (defs₀ (F := F)) Variants.none (c : Thread nD τ) none) Set.univ (cc0_topk_exact (F := F) i arg1 harg1 arg2 harg2 arg3 harg3 arg4 harg4 arg5 harg5 arg6 harg6 arg7 harg7)
          (fun _ => iprop(pt c arg1 f1 ∗ pt c arg2 f2 ∗ pt c arg3 f3 ∗ pt c arg4 f4
            ∗ pt c arg5 (stateAt c i arg1 harg1 arg2 harg2 arg3 harg3 arg4 harg4 arg5 harg5 arg6 harg6 arg7 harg7 f1 f2 f3 (stateInit arg5) 8)
            ∗ (∃ f, pt c arg6 f) ∗ (∃ f, pt c arg7 f))) := by
  simp only [cc0_topk_exact_eq_skeleton]; unfold cc0_topk_exact_skel
  iintro ⟨H1, H2, H3, H4, H5, H6, H7⟩
  sl_exec
  sl_step
  isplitl [H1]; · iexact H1
  isplitl [H2]; · iexact H2
  isplitl [H3]; · iexact H3
  isplitl [H4]; · iexact H4
  isplitl [H5]; · iexact H5
  isplitl [H6]; · iexists _; iexact H6
  iexists _; iexact H7

/-- A grid step between the first and the last: only the block loop. -/
theorem midRun (c : Dev nD) (i : grid0.Coords) (arg1 : Memref sig .tc .vmem S1024x1024 .bf16) (harg1 : arg1.IsWhole) (arg2 : Memref sig .tc .vmem S2048x1024 .i8) (harg2 : arg2.IsWhole) (arg3 : Memref sig .tc .vmem S1x16x128 .f32) (harg3 : arg3.IsWhole) (arg4 : Memref sig .tc .vmem S20x1024 .f32) (harg4 : arg4.IsWhole) (arg5 : Memref sig .tc .vmem S20x8x1024 .f32) (harg5 : arg5.IsWhole) (arg6 : Memref sig .tc .vmem S256x128 .f32) (harg6 : arg6.IsWhole) (arg7 : Memref sig .tc .vmem S256x256 .f32) (harg7 : arg7.IsWhole)
    (f1 : BufTy.Contents (Elt F) arg1.view.ty) (f2 : BufTy.Contents (Elt F) arg2.view.ty) (f3 : BufTy.Contents (Elt F) arg3.view.ty)
    (f4 : BufTy.Contents (Elt F) arg4.view.ty) (f5 : BufTy.Contents (Elt F) arg5.view.ty) (f6 : BufTy.Contents (Elt F) arg6.view.ty) (f7 : BufTy.Contents (Elt F) arg7.view.ty)
    (h1 : ¬ cond1 i = 1#1) (h2 : ¬ k0_cond2 i = 1#1) :
      iprop(pt c arg1 f1 ∗ pt c arg2 f2 ∗ pt c arg3 f3 ∗ pt c arg4 f4 ∗ pt c arg5 f5 ∗ pt c arg6 f6 ∗ pt c arg7 f7)
      ⊢ wp frame (wpE (defs₀ (F := F)) Variants.none (c : Thread nD τ) none) Set.univ (cc0_topk_exact (F := F) i arg1 harg1 arg2 harg2 arg3 harg3 arg4 harg4 arg5 harg5 arg6 harg6 arg7 harg7)
          (fun _ => iprop(pt c arg1 f1 ∗ pt c arg2 f2 ∗ pt c arg3 f3 ∗ pt c arg4 f4
            ∗ pt c arg5 (stateAt c i arg1 harg1 arg2 harg2 arg3 harg3 arg4 harg4 arg5 harg5 arg6 harg6 arg7 harg7 f1 f2 f3 f5 8)
            ∗ (∃ f, pt c arg6 f) ∗ (∃ f, pt c arg7 f))) := by
  simp only [cc0_topk_exact_eq_skeleton]; unfold cc0_topk_exact_skel
  iintro ⟨H1, H2, H3, H4, H5, H6, H7⟩
  sl_exec
  sl_step
  isplitl [H1]; · iexact H1
  isplitl [H2]; · iexact H2
  isplitl [H3]; · iexact H3
  isplitl [H4]; · iexact H4
  isplitl [H5]; · iexact H5
  isplitl [H6]; · iexists _; iexact H6
  iexists _; iexact H7

end Cert.KernelIdeal.Hand
-- ==== Proof.Run.lean ====
module

public import proofs.«01_k».proof.Proof.Steps
public import proofs.«01_k».proof.Proof.Gen.KernelIdeal.Frame
public import Idealize.ShloMosaic.Lib.Pipeline.DatRel
public import Idealize.ShloMosaic.Lib.Pipeline.ArrRel
public import Idealize.ShloMosaic.Lib.Claim

@[expose] public section

set_option maxHeartbeats 800000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three scratch buffers -/

/-- The state scratch. -/
abbrev scr0 : Memref sig .tc .vmem S20x8x1024 .f32 := Memref.whole cc0_scratch0
/-- The scratch of the scales. -/
abbrev scr1 : Memref sig .tc .vmem S256x128 .f32 := Memref.whole cc0_scratch1
/-- The scratch of the products. -/
abbrev scr2 : Memref sig .tc .vmem S256x256 .f32 := Memref.whole cc0_scratch2

/-- The staging buffer of window 0 is a whole buffer. -/
abbrev hst0 (t : Fin cfg0.N) : (st0_0 t).IsWhole := hstage0_0 ((cfg0.slots t 0).cast nbuf0_0)
/-- The staging buffer of window 1 is a whole buffer. -/
abbrev hst1 (t : Fin cfg0.N) : (st0_1 t).IsWhole := hstage0_1 ((cfg0.slots t 1).cast nbuf0_1)
/-- The staging buffer of window 2 is a whole buffer. -/
abbrev hst2 (t : Fin cfg0.N) : (st0_2 t).IsWhole := hstage0_2 ((cfg0.slots t 2).cast nbuf0_2)
/-- The staging buffer of window 3 is a whole buffer. -/
abbrev hst3 (t : Fin cfg0.N) : (st0_3 t).IsWhole := hstage0_3 ((cfg0.slots t 3).cast nbuf0_3)

/-! ## Which grid step is the first and which the last -/

/-- A grid step's coordinate is its number. -/
theorem coord_val (t : Fin cfg0.N) : (grid0.coords t 0).val = t.val := by
  have h : t.val < 176 := t.isLt
  exact (Pipeline.Grid.coords_val t (0 : Fin 1) (S := 1) (B := 176) rfl rfl).trans (by omega)

/-- The first guard holds at step 0 alone. -/
theorem cond1_iff (t : Fin cfg0.N) : cond1 (grid0.coords t) = 1#1 ↔ t.val = 0 := by
  have h : ∀ n : Fin 176, Scalar.cmpi .ne (Scalar.extui (Scalar.cmpi .eq (BitVec.ofNat 32 n.val) 0#32)) 0#32 = (1#1 : BitVec 1) ↔ n.val = 0 := by decide
  have := h ⟨t.val, t.isLt⟩
  unfold cond1; rw [coord_val]; exact this

/-- The last guard holds at step 175 alone. -/
theorem cond2_iff (t : Fin cfg0.N) : k0_cond2 (grid0.coords t) = 1#1 ↔ t.val = 175 := by
  have h : ∀ n : Fin 176, Scalar.cmpi .ne (Scalar.extui (Scalar.cmpi .eq (BitVec.ofNat 32 n.val) 175#32)) 0#32 = (1#1 : BitVec 1) ↔ n.val = 175 := by decide
  have := h ⟨t.val, t.isLt⟩
  unfold k0_cond2; rw [coord_val]; exact this

/-! ## What a run may say of the state and of the result -/

/-- Facts on the state and the result that the grid steps keep: `SI c n X` of the state `X` before grid step `n`, `RI c X` of
    the result `X`. The first step gives `SI c 1`, a middle step takes `SI c n` to `SI c (n+1)`, the last gives `RI c`. -/
structure Keeps (SI : Dev nD → ℕ → Vec F S20x8x1024 .f32 → Prop) (RI : Dev nD → Vec F S20x1024 .f32 → Prop) : Prop where
  first : ∀ (c : Dev nD) (t : Fin cfg0.N) f1 f2 f3, t.val = 0 →
    (st0_0 t).view.read (Elt F) f1 = iblk m c 0 t → (st0_1 t).view.read (Elt F) f2 = iblk m c 1 t → (st0_2 t).view.read (Elt F) f3 = iblk m c 2 t →
    SI c 1 (scr0.view.read (Elt F) (stateAt c (grid0.coords t) (st0_0 t) (hst0 t) (st0_1 t) (hst1 t) (st0_2 t) (hst2 t) (st0_3 t) (hst3 t)
      scr0 (Memref.isWhole_whole _) scr1 (Memref.isWhole_whole _) scr2 (Memref.isWhole_whole _) f1 f2 f3 (stateInit scr0) 8))
  mid : ∀ (c : Dev nD) (t : Fin cfg0.N) f1 f2 f3 f5, 0 < t.val → t.val < 175 →
    (st0_0 t).view.read (Elt F) f1 = iblk m c 0 t → (st0_1 t).view.read (Elt F) f2 = iblk m c 1 t → (st0_2 t).view.read (Elt F) f3 = iblk m c 2 t →
    SI c t.val (scr0.view.read (Elt F) f5) →
    SI c (t.val + 1) (scr0.view.read (Elt F) (stateAt c (grid0.coords t) (st0_0 t) (hst0 t) (st0_1 t) (hst1 t) (st0_2 t) (hst2 t) (st0_3 t) (hst3 t)
      scr0 (Memref.isWhole_whole _) scr1 (Memref.isWhole_whole _) scr2 (Memref.isWhole_whole _) f1 f2 f3 f5 8))
  last : ∀ (c : Dev nD) (t : Fin cfg0.N) f1 f2 f3 f4 f5 h1 h2, t.val = 175 →
    (st0_0 t).view.read (Elt F) f1 = iblk m c 0 t → (st0_1 t).view.read (Elt F) f2 = iblk m c 1 t → (st0_2 t).view.read (Elt F) f3 = iblk m c 2 t →
    SI c 175 (scr0.view.read (Elt F) f5) →
    RI c ((st0_3 t).view.read (Elt F) ((st0_3 t).view.writes (Elt F) f4
      (lastRun c (grid0.coords t) (st0_0 t) (hst0 t) (st0_1 t) (hst1 t) (st0_2 t) (hst2 t) (st0_3 t) (hst3 t)
      scr0 (Memref.isWhole_whole _) scr1 (Memref.isWhole_whole _) scr2 (Memref.isWhole_whole _) f1 f2 f3 f5 h1 h2).1))

variable (SI : Dev nD → ℕ → Vec F S20x8x1024 .f32 → Prop) (RI : Dev nD → Vec F S20x1024 .f32 → Prop)

/-- The scratches between grid steps: the state at something that `SI` says, the two staging scratches at anything. -/
def inv (c : Dev nD) (n : ℕ) : sProp 𝕄 :=
  iprop((∃ f5, ⌜0 < n → n < 176 → SI c n (scr0.view.read (Elt F) f5)⌝ ∗ pt c scr0 f5)
    ∗ (∃ f, pt c scr1 f) ∗ (∃ f, pt c scr2 f) ∗ (∃ r, prngReg c r))

/-- The pipeline's proof data: the inputs' buffers at their blocks after each step, the scratches at `inv`. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => fun _ => Classical.arbitrary _
  Φ t := inv SI c t.val
  q _ := fullShare
  owed _ := 0

/-- The result's window is the one of which only a relation is said. -/
def fgt (w : Fin cfg0.W) : Bool := match w with
  | ⟨0, _⟩ => false
  | ⟨1, _⟩ => false
  | ⟨2, _⟩ => false
  | ⟨3, _⟩ => true

/-- At the last step the result's buffer is left at something that `RI` says. -/
def Rl (c : Dev nD) (w : Fin cfg0.W) (t : Fin cfg0.N) : ((cfg0.win w).block.Idx → Elt F (cfg0.win w).elt) → Prop := match w with
  | ⟨0, _⟩ => fun _ => True
  | ⟨1, _⟩ => fun _ => True
  | ⟨2, _⟩ => fun _ => True
  | ⟨3, _⟩ => fun X => t.val = 175 → RI c X

/-- The arrays are what the host operations left. -/
theorem A_eq (c : Dev nD) (w : Fin cfg0.W) : (dats m SI c).A w = V m c (Pipeline.arrRef spec0 w) := by dsimp only [dats]
/-- After a step window 0 is at its block. -/
theorem after_0 (c : Dev nD) (t : Fin cfg0.N) : (dats m SI c).after 0 t = iblk m c 0 t := by dsimp only [dats]
/-- After a step window 1 is at its block. -/
theorem after_1 (c : Dev nD) (t : Fin cfg0.N) : (dats m SI c).after 1 t = iblk m c 1 t := by dsimp only [dats]
/-- After a step window 2 is at its block. -/
theorem after_2 (c : Dev nD) (t : Fin cfg0.N) : (dats m SI c).after 2 t = iblk m c 2 t := by dsimp only [dats]
/-- Before a step window 0 is at its block. -/
theorem before_0 (c : Dev nD) (t : Fin cfg0.N) (d) : (dats m SI c).before 0 t d = iblk m c 0 t :=
  before0_0_of m (dats m SI c) (A_eq m SI c 0) (after_0 m SI c) t d
/-- Before a step window 1 is at its block. -/
theorem before_1 (c : Dev nD) (t : Fin cfg0.N) (d) : (dats m SI c).before 1 t d = iblk m c 1 t :=
  before0_1_of m (dats m SI c) (A_eq m SI c 1) (after_1 m SI c) t d
/-- Before a step window 2 is at its block. -/
theorem before_2 (c : Dev nD) (t : Fin cfg0.N) (d) : (dats m SI c).before 2 t d = iblk m c 2 t :=
  before0_2_of m (dats m SI c) (A_eq m SI c 2) (after_2 m SI c) t d

/-! ## The body at one grid step -/

/-- What the body is called with at step `t`, -/
def bodyPre (c : Dev nD) (t : Fin cfg0.N) : sProp 𝕄 :=
  iprop(inv SI c t.val ∗ (dats m SI c).owesAt () t.castSucc
    ∗ (∃ d, owns (c : Thread nD τ) (st0_0 t) fullShare ((dats m SI c).before 0 t d))
    ∗ (∃ d, owns (c : Thread nD τ) (st0_1 t) fullShare ((dats m SI c).before 1 t d))
    ∗ (∃ d, owns (c : Thread nD τ) (st0_2 t) fullShare ((dats m SI c).before 2 t d))
    ∗ (∃ Y, ⌜((dats m SI c).toRRel fgt (Rl RI c)).Finds 3 t Y⌝ ∗ owns (c : Thread nD τ) (st0_3 t) fullShare Y))

/-- and what it returns. -/
def bodyPost (c : Dev nD) (t : Fin cfg0.N) : sProp 𝕄 :=
  iprop(inv SI c (t.val + 1) ∗ (dats m SI c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ (∃ X, ⌜Rl RI c 3 t X⌝ ∗ owns (c : Thread nD τ) (st0_3 t) fullShare X))

/-- The body's triple at any step, the steps keeping `SI` and `RI`. -/
theorem sound_body (hK : Keeps m SI RI) (c : Dev nD) (t : Fin cfg0.N) :
    bodyPre m SI RI c t ⊢ wp frame (wpE (defs₀ (F := F)) Variants.none c none) Set.univ (bodyAt0 t) (fun _ => bodyPost m SI RI c t) := by
  have ht : t.val < 176 := t.isLt
  unfold bodyPre bodyPost bodyAt0 inv
  simp only [before_0, before_1, before_2]
  unfold owns
  iintro ⟨⟨⟨%f5, %hS, H5⟩, ⟨%f6, H6⟩, ⟨%f7, H7⟩, Hr⟩, Ho, ⟨%d0, %f1, %hf1, H1⟩, ⟨%d1, %f2, %hf2, H2⟩, ⟨%d2, %f3, %hf3, H3⟩, ⟨%Y, %hY, %f4, %hf4, H4⟩⟩
  by_cases h0 : t.val = 0
  · have h1 := (cond1_iff t).mpr h0
    have h2 : ¬ k0_cond2 (grid0.coords t) = 1#1 := fun h => by have := (cond2_iff t).mp h; omega
    iapply (wp_wand_r Idealize.ShloMosaic.frame _ Set.univ)
    isplitl [H1 H2 H3 H4 H5 H6 H7]
    · iapply (firstRun c (grid0.coords t) (st0_0 t) (hst0 t) (st0_1 t) (hst1 t) (st0_2 t) (hst2 t) (st0_3 t) (hst3 t) scr0 (Memref.isWhole_whole _) scr1 (Memref.isWhole_whole _) scr2 (Memref.isWhole_whole _) f1 f2 f3 f4 f5 f6 f7 h1 h2)
      isplitl [H1]; · iexact H1
      isplitl [H2]; · iexact H2
      isplitl [H3]; · iexact H3
      isplitl [H4]; · iexact H4
      isplitl [H5]; · iexact H5
      isplitl [H6]; · iexact H6
      iexact H7
    iintro %_ ⟨H1, H2, H3, H4, H5, ⟨%g6, H6⟩, ⟨%g7, H7⟩⟩
    isplitl [H5 H6 H7 Hr]
    · isplitl [H5]
      · iexists _; isplitr
        swap; · iexact H5
        ipureintro; exact fun _ _ => by rw [h0]; exact hK.first c t f1 f2 f3 h0 hf1 hf2 hf3
      isplitl [H6]; · iexists _; iexact H6
      isplitl [H7]; · iexists _; iexact H7
      iexact Hr
    isplitl [Ho]; · iexact Ho
    isplitl [H1]
    · iexists _; isplitr
      swap; · iexact H1
      ipureintro; exact hf1
    isplitl [H2]
    · iexists _; isplitr
      swap; · iexact H2
      ipureintro; exact hf2
    isplitl [H3]
    · iexists _; isplitr
      swap; · iexact H3
      ipureintro; exact hf3
    iexists _; isplitr
    swap
    · iexists _; isplitr
      swap; · iexact H4
      ipureintro; rfl
    ipureintro; exact fun h => absurd h (by omega)
  have h1 : ¬ cond1 (grid0.coords t) = 1#1 := fun h => h0 ((cond1_iff t).mp h)
  by_cases h175 : t.val = 175
  · have h2 := (cond2_iff t).mpr h175
    iapply (wp_wand_r Idealize.ShloMosaic.frame _ Set.univ)
    isplitl [H1 H2 H3 H4 H5 H6 H7]
    · iapply ((lastRun c (grid0.coords t) (st0_0 t) (hst0 t) (st0_1 t) (hst1 t) (st0_2 t) (hst2 t) (st0_3 t) (hst3 t) scr0 (Memref.isWhole_whole _) scr1 (Memref.isWhole_whole _) scr2 (Memref.isWhole_whole _) f1 f2 f3 f5 h1 h2).2 f4 f6 f7)
      isplitl [H1]; · iexact H1
      isplitl [H2]; · iexact H2
      isplitl [H3]; · iexact H3
      isplitl [H4]; · iexact H4
      isplitl [H5]; · iexact H5
      isplitl [H6]; · iexact H6
      iexact H7
    iintro %_ ⟨H1, H2, H3, H4, H5, ⟨%g6, H6⟩, ⟨%g7, H7⟩⟩
    isplitl [H5 H6 H7 Hr]
    · isplitl [H5]
      · iexists _; isplitr
        swap; · iexact H5
        ipureintro; exact fun _ h => absurd h (by omega)
      isplitl [H6]; · iexists _; iexact H6
      isplitl [H7]; · iexists _; iexact H7
      iexact Hr
    isplitl [Ho]; · iexact Ho
    isplitl [H1]
    · iexists _; isplitr
      swap; · iexact H1
      ipureintro; exact hf1
    isplitl [H2]
    · iexists _; isplitr
      swap; · iexact H2
      ipureintro; exact hf2
    isplitl [H3]
    · iexists _; isplitr
      swap; · iexact H3
      ipureintro; exact hf3
    iexists _; isplitr
    swap
    · iexists _; isplitr
      swap; · iexact H4
      ipureintro; rfl
    ipureintro; exact fun _ => hK.last c t f1 f2 f3 f4 f5 h1 h2 h175 hf1 hf2 hf3 (by rw [← h175]; exact hS (by omega) ht)
  · have h2 : ¬ k0_cond2 (grid0.coords t) = 1#1 := fun h => h175 ((cond2_iff t).mp h)
    iapply (wp_wand_r Idealize.ShloMosaic.frame _ Set.univ)
    isplitl [H1 H2 H3 H4 H5 H6 H7]
    · iapply (midRun c (grid0.coords t) (st0_0 t) (hst0 t) (st0_1 t) (hst1 t) (st0_2 t) (hst2 t) (st0_3 t) (hst3 t) scr0 (Memref.isWhole_whole _) scr1 (Memref.isWhole_whole _) scr2 (Memref.isWhole_whole _) f1 f2 f3 f4 f5 f6 f7 h1 h2)
      isplitl [H1]; · iexact H1
      isplitl [H2]; · iexact H2
      isplitl [H3]; · iexact H3
      isplitl [H4]; · iexact H4
      isplitl [H5]; · iexact H5
      isplitl [H6]; · iexact H6
      iexact H7
    iintro %_ ⟨H1, H2, H3, H4, H5, ⟨%g6, H6⟩, ⟨%g7, H7⟩⟩
    isplitl [H5 H6 H7 Hr]
    · isplitl [H5]
      · iexists _; isplitr
        swap; · iexact H5
        ipureintro; exact fun _ _ => hK.mid c t f1 f2 f3 f5 (by omega) (by omega) hf1 hf2 hf3 (hS (by omega) ht)
      isplitl [H6]; · iexists _; iexact H6
      isplitl [H7]; · iexists _; iexact H7
      iexact Hr
    isplitl [Ho]; · iexact Ho
    isplitl [H1]
    · iexists _; isplitr
      swap; · iexact H1
      ipureintro; exact hf1
    isplitl [H2]
    · iexists _; isplitr
      swap; · iexact H2
      ipureintro; exact hf2
    isplitl [H3]
    · iexists _; isplitr
      swap; · iexact H3
      ipureintro; exact hf3
    iexists _; isplitr
    swap
    · iexists _; isplitr
      swap; · iexact H4
      ipureintro; rfl
    ipureintro; exact fun h => absurd h h175

/-- The body table's row at step `t` is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every step. -/
theorem body_obligation (hK : Keeps m SI RI) (c : Dev nD) :
    BodyObligationRel (dats m SI c) (defs₀ (F := F)) Variants.none () Set.univ fgt (Rl RI c) := fun t => by
  rw [bigSep_W0, bigSep_W0, defs₀_row]
  exact triple_restated (sound_body m SI RI hK c t) rfl .rfl fun _ => .rfl

/-! ## The run -/

/-- The state scratch, owned as a buffer or as a reference. -/
theorem pt_scr0 (c : Dev nD) (f : Buf (Elt F) ((c : Thread nD τ).loc cc0_scratch0)) :
    (pt c scr0 f : sProp 𝕄) = (((c : Thread nD τ).loc cc0_scratch0) ↦{fullShare} f) := by
  unfold pt; rw [(Memref.isWhole_whole cc0_scratch0).set_eq_univ]

/-- The scratch of the scales, owned as a buffer or as a reference. -/
theorem pt_scr1 (c : Dev nD) (f : Buf (Elt F) ((c : Thread nD τ).loc cc0_scratch1)) :
    (pt c scr1 f : sProp 𝕄) = (((c : Thread nD τ).loc cc0_scratch1) ↦{fullShare} f) := by
  unfold pt; rw [(Memref.isWhole_whole cc0_scratch1).set_eq_univ]

/-- The scratch of the products, owned as a buffer or as a reference. -/
theorem pt_scr2 (c : Dev nD) (f : Buf (Elt F) ((c : Thread nD τ).loc cc0_scratch2)) :
    (pt c scr2 f : sProp 𝕄) = (((c : Thread nD τ).loc cc0_scratch2) ↦{fullShare} f) := by
  unfold pt; rw [(Memref.isWhole_whole cc0_scratch2).set_eq_univ]

/-- The scratches as allocated satisfy the invariant before the first step. -/
theorem inv_in (c : Dev nD) : Pipeline.ΦA spec0 c ⊢ (inv SI c 0 : sProp 𝕄) := by
  unfold Pipeline.ΦA inv
  rw [scopedRest0_eq]
  iintro ⟨⟨⟨%f0, H0⟩, ⟨%g1, H1⟩, ⟨%g2, H2⟩⟩, Hr⟩
  isplitl [H0]
  · iexists f0; isplitr
    · ipureintro; exact fun h => absurd h (by omega)
    rw [pt_scr0]; iexact H0
  isplitl [H1]; · iexists g1; rw [pt_scr1]; iexact H1
  isplitl [H2]; · iexists g2; rw [pt_scr2]; iexact H2
  iexact Hr

/-- After the last step the scratches are given back. -/
theorem inv_out (c : Dev nD) : (inv SI c 176 : sProp 𝕄) ⊢ Pipeline.ΦA spec0 c := by
  unfold Pipeline.ΦA inv
  rw [scopedRest0_eq]
  iintro ⟨⟨%f0, -, H0⟩, ⟨%g1, H1⟩, ⟨%g2, H2⟩, Hr⟩
  isplitl [H0 H1 H2]
  · isplitl [H0]; · iexists f0; rw [← pt_scr0]; iexact H0
    isplitl [H1]; · iexists g1; rw [← pt_scr1]; iexact H1
    iexists g2; rw [← pt_scr2]; iexact H2
  iexact Hr

/-- The result at the end, on each core, is something that `RI` says. -/
def Post (r : PUnit × MemSt nD τ sig (Elt F)) : Prop :=
  (∀ c : Dev nD, (∃ X, RI c X ∧ ∀ j : S20x1024.Idx, r.2.mem ((c.tc : Thread nD τ).loc main_v2) j = X j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0

/-- The last step writes the result's window back whole. -/
theorem whole3 : (cfg0.win 3).WholeAt (⟨175, by decide⟩ : Fin cfg0.N) := by
  refine ⟨(flush0_3 _).mpr rfl, fun t h => Fin.ext ?_, fun a => ?_⟩
  · have := (flush0_3 t).mp h; have h' : t.val < 176 := t.isLt; show t.val = 175; omega
  · revert a; decide

/-- What the launch leaves, as `Post`. -/
theorem post_of (r : PUnit × MemSt nD τ sig (Elt F))
    (h : RDat.FramePost cfg0 (fun c => (dats m SI c).toRRel fgt (Rl RI c)) (V m) r) (hs : r.2.sem = fun _ => 0) : Post m RI r := by
  refine ⟨fun c => ⟨?_, ?_, ?_, ?_⟩, hs⟩
  · obtain ⟨X, ⟨_, _, hX⟩, hj⟩ := ((h c).1 3).emb_eq_of_wholeAt whole3
    exact ⟨X, hX rfl, fun j => hj j⟩
  · exact ((h c).2 main_arg0 (Pipeline.mem_restRefs_of main_arg0 (by decide) (by decide))).trans (V_main_arg0 m c)
  · exact (h.arr_in c 1 rfl).trans ((A_eq m SI c 1).trans (V_main_arg1 m c))
  · exact ((h c).2 main_arg2 (Pipeline.mem_restRefs_of main_arg2 (by decide) (by decide))).trans (V_main_arg2 m c)

set_option backward.isDefEq.respectTransparency.types false in
/-- The whole program runs to its end, every counter back at zero, its arguments unchanged, its result at something that
    `RI` says. -/
theorem run (hK : Keeps m SI RI) : θ_run defs (onTc (τ := τ) (main (F := F))) ⟨m, fun _ => 0, ρ⟩ (Post m RI) :=
  RDat.θ_run_frame_track cfgs (0 : Fin 1) launch0 defs₀ Variants.none (fun c => (dats m SI c).toRRel fgt (Rl RI c)) m ρ main
    (hbody := fun c => (body_obligation m SI RI hK c).toRRel)
    (hshare := fun c => (dats m SI c).share_full fun _ => rfl) (howed := fun _ _ => rfl)
    (V := V m) (hmain := hmain m Variants.none) (hA := A_eq m SI)
    (hin := inv_in SI) (hout := inv_out SI)
    (Q' := Post m RI) (hQ' := fun r h => post_of m SI RI r h.1 h.2)

/-- `run` with nothing said of the state or of the result. -/
theorem keeps_true : Keeps m (fun _ _ _ => True) (fun _ _ => True) :=
  ⟨fun _ _ _ _ _ _ _ _ _ => trivial, fun _ _ _ _ _ _ _ _ _ _ _ _ => trivial, fun _ _ _ _ _ _ _ _ _ _ _ _ _ _ => trivial⟩

/-- THE FRAME: the program runs to its end, its arguments unchanged and every counter back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run m ρ _ _ (keeps_true m))

end Cert.KernelIdeal.Hand
-- ==== Proof.Shape.lean ====
module

public import proofs.«01_k».proof.Proof.Body

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL

variable {F : FTy → Type} [FloatOps F]

/-- The box of one slot `k` of the state at one group `g` of 128 lanes lies in the state. -/
theorem inbState (k : Fin 20) (g : Fin 8) : ∀ a, (![k.val, 0, 128 * g.val] : Fin 3 → Nat) a + S1x8x128.size a ≤ S20x8x1024.size a := by
  revert k g; decide

/-- The box of one row `k` of the result at one group `g` of 128 lanes lies in the result. -/
theorem inbTop (k : Fin 20) (g : Fin 8) : ∀ a, (![k.val, 128 * g.val] : Fin 2 → Nat) a + S1x128.size a ≤ S20x1024.size a := by
  revert k g; decide

/-- Slot `k` of the state at lane group `g`, as it is loaded. -/
def ldState (arg5 : Memref sig .tc .vmem S20x8x1024 .f32) (f5 : BufTy.Contents (Elt F) arg5.view.ty) (k : Fin 20) (g : Fin 8) : FVec F S8x128 .f32 :=
  shapeCast S8x128 (View.readAt (Elt F) arg5.view (Rect.unit (s := S20x8x1024) ![k.val, 0, 128 * g.val] S1x8x128.size (inbState k g)).toLoadRect f5) shapeCasts_S1x8x128_S8x128

/-- One value stored to slot `k` of the state at lane group `g`. -/
def pcState (k : Fin 20) (g : Fin 8) (v : FVec F S8x128 .f32) : View.Piece (Elt F) S20x8x1024 .f32 :=
  ⟨Rect.unit (s := S20x8x1024) ![k.val, 0, 128 * g.val] S1x8x128.size (inbState k g), shapeCast S1x8x128 v shapeCasts_S8x128_S1x8x128⟩

/-- The first sublane of one value stored to row `k` of the result at lane group `g`. -/
def pcTop (k : Fin 20) (g : Fin 8) (v : FVec F S8x128 .f32) : View.Piece (Elt F) S20x1024 .f32 :=
  ⟨Rect.unit (s := S20x1024) ![k.val, 128 * g.val] S1x128.size (inbTop k g), extractStridedSlice S1x128 ![0, 0] v slices_S8x128_o0_0_S1x128⟩

/-- The stores of all slots `k` and groups `g`, the last first. -/
def allPieces {S : Shape} (pc : Fin 20 → Fin 8 → FVec F S8x128 .f32 → View.Piece (Elt F) S .f32) (W : Fin 8 → Fin 20 → FVec F S8x128 .f32) : List (View.Piece (Elt F) S .f32) :=
  (List.finRange 8).reverse.flatMap fun g => (List.finRange 20).reverse.map fun k => pc k g (W g k)

end Cert.KernelIdeal.Hand
-- ==== Proof.TripShape.lean ====
module

public import proofs.«01_k».proof.Proof.Shape

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL

variable {F : FTy → Type} [FloatOps F]

/-- The twenty values the insertion carries. -/
abbrev T20 (F : FTy → Type) [FloatOps F] : Type := FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32

/-- The twenty values as a function of the slot. -/
def colV (t : T20 F) : Fin 20 → FVec F S8x128 .f32 :=
  ![t.1, t.2.1, t.2.2.1, t.2.2.2.1, t.2.2.2.2.1, t.2.2.2.2.2.1, t.2.2.2.2.2.2.1, t.2.2.2.2.2.2.2.1, t.2.2.2.2.2.2.2.2.1, t.2.2.2.2.2.2.2.2.2.1, t.2.2.2.2.2.2.2.2.2.2.1, t.2.2.2.2.2.2.2.2.2.2.2.1, t.2.2.2.2.2.2.2.2.2.2.2.2.1, t.2.2.2.2.2.2.2.2.2.2.2.2.2.1, t.2.2.2.2.2.2.2.2.2.2.2.2.2.2.1, t.2.2.2.2.2.2.2.2.2.2.2.2.2.2.2.1, t.2.2.2.2.2.2.2.2.2.2.2.2.2.2.2.2.1, t.2.2.2.2.2.2.2.2.2.2.2.2.2.2.2.2.2.1, t.2.2.2.2.2.2.2.2.2.2.2.2.2.2.2.2.2.2.1, t.2.2.2.2.2.2.2.2.2.2.2.2.2.2.2.2.2.2.2]

/-- The twenty values as a tuple. -/
def tup20 (w : Fin 20 → FVec F S8x128 .f32) : T20 F :=
  (w 0, w 1, w 2, w 3, w 4, w 5, w 6, w 7, w 8, w 9, w 10, w 11, w 12, w 13, w 14, w 15, w 16, w 17, w 18, w 19)

/-- Inserting `v` into twenty slots: each slot keeps the greater and hands the lesser on. -/
def insV : List (FVec F S8x128 .f32) → FVec F S8x128 .f32 → List (FVec F S8x128 .f32)
  | [], _ => []
  | a :: l, v => maximumf a v :: insV l (minimumf a v)

/-- The same on the tuple. -/
def insT (v : FVec F S8x128 .f32) (t : T20 F) : T20 F :=
  tup20 fun k => (insV (List.ofFn (colV t)) v).getD k v

/-- The eight rows lie within the products. -/
theorem inb7 (g : Fin 2) (j : Fin 32) : ∀ a, (![8 * j.val, 128 * g.val] : Fin 2 → Nat) a + S8x128.size a ≤ S256x256.size a := by
  revert g j; decide

/-- The eight rows lie within the scales. -/
theorem inb6 (j : Fin 32) : ∀ a, (![8 * j.val, 0] : Fin 2 → Nat) a + S8x128.size a ≤ S256x128.size a := by
  revert j; decide

/-- The scores of eight rows, read at the given offsets: the products times the scales. -/
def scoreO (arg6 : Memref sig .tc .vmem S256x128 .f32) (arg7 : Memref sig .tc .vmem S256x256 .f32) (X6 : BufTy.Contents (Elt F) arg6.view.ty) (X7 : BufTy.Contents (Elt F) arg7.view.ty)
    (o7 : Fin 2 → Nat) (h7 : ∀ a, o7 a + S8x128.size a ≤ S256x256.size a) (o6 : Fin 2 → Nat) (h6 : ∀ a, o6 a + S8x128.size a ≤ S256x128.size a) : FVec F S8x128 .f32 :=
  mulf (View.readAt (Elt F) arg7.view (Rect.unit (s := S256x256) o7 S8x128.size h7).toLoadRect X7)
    (View.readAt (Elt F) arg6.view (Rect.unit (s := S256x128) o6 S8x128.size h6).toLoadRect X6)

/-- The scores of rows `8 j … 8 j + 7` at lane group `g`. -/
def scoreV (arg6 : Memref sig .tc .vmem S256x128 .f32) (arg7 : Memref sig .tc .vmem S256x256 .f32) (X6 : BufTy.Contents (Elt F) arg6.view.ty) (X7 : BufTy.Contents (Elt F) arg7.view.ty) (g : Fin 2) (j : Fin 32) : FVec F S8x128 .f32 :=
  scoreO arg6 arg7 X6 X7 ![8 * j.val, 128 * g.val] (inb7 g j) ![8 * j.val, 0] (inb6 j)

/-- The slots after the first `n` insertions. -/
def iter (w : Fin 32 → FVec F S8x128 .f32) (init : T20 F) : ℕ → T20 F
  | 0 => init
  | n + 1 => if h : n < 32 then insT (w ⟨n, h⟩) (iter w init n) else iter w init n

/-- The 256 queries lie within the block. -/
theorem inbX (q : Fin 4) : ∀ a, (![256 * q.val, 0] : Fin 2 → Nat) a + S256x1024.size a ≤ S1024x1024.size a := by
  revert q; decide

/-- The products of one trip's rows with the `q`-th 256 queries, as they are stored. -/
def prodPiece (arg1 : Memref sig .tc .vmem S1024x1024 .bf16) (arg2 : Memref sig .tc .vmem S2048x1024 .i8)
    (f1 : BufTy.Contents (Elt F) arg1.view.ty) (f2 : BufTy.Contents (Elt F) arg2.view.ty) (k : Fin k0_t1_loop.trips) (q : Fin 4) : View.Piece (Elt F) S256x256 .f32 :=
  ⟨Rect.unit (s := S256x256) ![0, 0] S256x256.size inb_S256x256_S256x256_0_0,
    k0_pay11 (View.readAt (Elt F) arg2.view (Rect.unit (s := S2048x1024) (k0_off2 k) S256x1024.size (k0_off2_inb k)).toLoadRect f2)
      (View.readAt (Elt F) arg1.view (Rect.unit (s := S1024x1024) ![256 * q.val, 0] S256x1024.size (inbX q)).toLoadRect f1)⟩

/-- What the eight insertion loops of one trip leave, by lane group. -/
def tripTup (c : Dev nD) (i : grid0.Coords) (arg1 : Memref sig .tc .vmem S1024x1024 .bf16) (harg1 : arg1.IsWhole) (arg2 : Memref sig .tc .vmem S2048x1024 .i8) (harg2 : arg2.IsWhole) (arg3 : Memref sig .tc .vmem S1x16x128 .f32) (harg3 : arg3.IsWhole) (arg4 : Memref sig .tc .vmem S20x1024 .f32) (harg4 : arg4.IsWhole) (arg5 : Memref sig .tc .vmem S20x8x1024 .f32) (harg5 : arg5.IsWhole) (arg6 : Memref sig .tc .vmem S256x128 .f32) (harg6 : arg6.IsWhole) (arg7 : Memref sig .tc .vmem S256x256 .f32) (harg7 : arg7.IsWhole)
    (f1 : BufTy.Contents (Elt F) arg1.view.ty) (f2 : BufTy.Contents (Elt F) arg2.view.ty) (f3 : BufTy.Contents (Elt F) arg3.view.ty)
    (f5 : BufTy.Contents (Elt F) arg5.view.ty) (k : Fin k0_t1_loop.trips) : Fin 8 → T20 F :=
  ![
    st_k0_t2 Variants.none c none i arg1 harg1 arg2 harg2 arg3 harg3 arg4 harg4 arg5 harg5 arg6 harg6 arg7 harg7 (trip.sl.v41 arg5 f5) (trip.sl.v43 arg5 f5) (trip.sl.v45 arg5 f5) (trip.sl.v47 arg5 f5) (trip.sl.v49 arg5 f5) (trip.sl.v51 arg5 f5) (trip.sl.v53 arg5 f5) (trip.sl.v55 arg5 f5) (trip.sl.v57 arg5 f5) (trip.sl.v59 arg5 f5) (trip.sl.v61 arg5 f5) (trip.sl.v63 arg5 f5) (trip.sl.r_2 arg5 f5) (arg6.view.writes (Elt F) arg6.view.junk (trip.sl.H6_2 arg3 f3 k)) (arg7.view.writes (Elt F) arg7.view.junk (trip.sl.H7_1 arg1 arg2 f1 f2 k)) (trip.sl.v41 arg5 f5, trip.sl.v43 arg5 f5, trip.sl.v45 arg5 f5, trip.sl.v47 arg5 f5, trip.sl.v49 arg5 f5, trip.sl.v51 arg5 f5, trip.sl.v53 arg5 f5, trip.sl.v55 arg5 f5, trip.sl.v57 arg5 f5, trip.sl.v59 arg5 f5, trip.sl.v61 arg5 f5, trip.sl.v63 arg5 f5, k0_pay24 (trip.sl.r_2 arg5 f5), k0_pay25 (View.readAt (Elt F) arg5.view (Rect.unit (s := S20x8x1024) ![13, 0, 0] S1x8x128.size inb_S20x8x1024_S1x8x128_13_0_0).toLoadRect f5), k0_pay26 (View.readAt (Elt F) arg5.view (Rect.unit (s := S20x8x1024) ![14, 0, 0] S1x8x128.size inb_S20x8x1024_S1x8x128_14_0_0).toLoadRect f5), k0_pay27 (View.readAt (Elt F) arg5.view (Rect.unit (s := S20x8x1024) ![15, 0, 0] S1x8x128.size inb_S20x8x1024_S1x8x128_15_0_0).toLoadRect f5), k0_pay28 (View.readAt (Elt F) arg5.view (Rect.unit (s := S20x8x1024) ![16, 0, 0] S1x8x128.size inb_S20x8x1024_S1x8x128_16_0_0).toLoadRect f5), k0_pay29 (View.readAt (Elt F) arg5.view (Rect.unit (s := S20x8x1024) ![17, 0, 0] S1x8x128.size inb_S20x8x1024_S1x8x128_17_0_0).toLoadRect f5), k0_pay30 (View.readAt (Elt F) arg5.view (Rect.unit (s := S20x8x1024) ![18, 0, 0] S1x8x128.size inb_S20x8x1024_S1x8x128_18_0_0).toLoadRect f5), k0_pay31 (View.readAt (Elt F) arg5.view (Rect.unit (s := S20x8x1024) ![19, 0, 0] S1x8x128.size inb_S20x8x1024_S1x8x128_19_0_0).toLoadRect f5)) (Scf.trips k0_t2_loop.lb k0_t2_loop.ub k0_t2_loop.st),
    st_k0_t3 Variants.none c none i arg1 harg1 arg2 harg2 arg3 harg3 arg4 harg4 arg5 harg5 arg6 harg6 arg7 harg7 (trip.sl.v143 arg5 f5) (trip.sl.v145 arg5 f5) (trip.sl.v147 arg5 f5) (trip.sl.v149 arg5 f5) (trip.sl.v151 arg5 f5) (trip.sl.v153 arg5 f5) (trip.sl.v155 arg5 f5) (trip.sl.v157 arg5 f5) (trip.sl.v159 arg5 f5) (trip.sl.v161 arg5 f5) (trip.sl.v163 arg5 f5) (arg6.view.writes (Elt F) arg6.view.junk (trip.sl.H6_2 arg3 f3 k)) (arg7.view.writes (Elt F) arg7.view.junk (trip.sl.H7_1 arg1 arg2 f1 f2 k)) (trip.sl.v143 arg5 f5, trip.sl.v145 arg5 f5, trip.sl.v147 arg5 f5, trip.sl.v149 arg5 f5, trip.sl.v151 arg5 f5, trip.sl.v153 arg5 f5, trip.sl.v155 arg5 f5, trip.sl.v157 arg5 f5, trip.sl.v159 arg5 f5, trip.sl.v161 arg5 f5, trip.sl.v163 arg5 f5, k0_pay97 (trip.sl.v164 arg5 f5), k0_pay98 (trip.sl.v166 arg5 f5), k0_pay99 (trip.sl.v168 arg5 f5), k0_pay100 (trip.sl.v170 arg5 f5), k0_pay101 (trip.sl.v172 arg5 f5), k0_pay102 (trip.sl.v174 arg5 f5), k0_pay103 (trip.sl.v176 arg5 f5), k0_pay104 (trip.sl.v178 arg5 f5), k0_pay105 (trip.sl.v180 arg5 f5)) (Scf.trips k0_t3_loop.lb k0_t3_loop.ub k0_t3_loop.st),
    st_k0_t4 Variants.none c none i arg1 harg1 arg2 harg2 arg3 harg3 arg4 harg4 arg5 harg5 arg6 harg6 arg7 harg7 (trip.sl.r_40 arg5 f5) (trip.sl.r_41 arg5 f5) (trip.sl.r_42 arg5 f5) (trip.sl.r_43 arg5 f5) (trip.sl.r_44 arg5 f5) (trip.sl.r_45 arg5 f5) (trip.sl.r_46 arg5 f5) (trip.sl.r_47 arg5 f5) (trip.sl.v267 arg5 f5) (trip.sl.v269 arg5 f5) (trip.sl.v271 arg5 f5) (trip.sl.v273 arg5 f5) (trip.sl.v275 arg5 f5) (trip.sl.v277 arg5 f5) (trip.sl.v279 arg5 f5) (trip.sl.v281 arg5 f5) (trip.sl.v283 arg5 f5) (trip.sl.v285 arg5 f5) (trip.sl.v287 arg5 f5) (trip.sl.v289 arg5 f5) (arg6.view.writes (Elt F) arg6.view.junk (trip.sl.H6_2 arg3 f3 k)) (arg7.view.writes (Elt F) arg7.view.junk (⟨Rect.unit ![0, 0] S256x256.size inb_S256x256_S256x256_0_0, k0_pay160 (trip.sl.r arg2 f2 k) (View.readAt (Elt F) arg1.view (Rect.unit (s := S1024x1024) ![256, 0] S256x1024.size inb_S1024x1024_S256x1024_256_0).toLoadRect f1)⟩ :: trip.sl.H7_1 arg1 arg2 f1 f2 k)) (trip.sl.r_40 arg5 f5, trip.sl.r_41 arg5 f5, trip.sl.r_42 arg5 f5, trip.sl.r_43 arg5 f5, trip.sl.r_44 arg5 f5, trip.sl.r_45 arg5 f5, trip.sl.r_46 arg5 f5, trip.sl.r_47 arg5 f5, trip.sl.v267 arg5 f5, trip.sl.v269 arg5 f5, trip.sl.v271 arg5 f5, trip.sl.v273 arg5 f5, trip.sl.v275 arg5 f5, trip.sl.v277 arg5 f5, trip.sl.v279 arg5 f5, trip.sl.v281 arg5 f5, trip.sl.v283 arg5 f5, trip.sl.v285 arg5 f5, trip.sl.v287 arg5 f5, trip.sl.v289 arg5 f5) (Scf.trips k0_t4_loop.lb k0_t4_loop.ub k0_t4_loop.st),
    st_k0_t5 Variants.none c none i arg1 harg1 arg2 harg2 arg3 harg3 arg4 harg4 arg5 harg5 arg6 harg6 arg7 harg7 (trip.sl.v353 arg5 f5) (trip.sl.v355 arg5 f5) (trip.sl.v357 arg5 f5) (trip.sl.v359 arg5 f5) (trip.sl.v361 arg5 f5) (trip.sl.v363 arg5 f5) (trip.sl.v365 arg5 f5) (trip.sl.v367 arg5 f5) (trip.sl.v369 arg5 f5) (trip.sl.v371 arg5 f5) (trip.sl.v373 arg5 f5) (trip.sl.v375 arg5 f5) (trip.sl.v377 arg5 f5) (trip.sl.v379 arg5 f5) (trip.sl.v381 arg5 f5) (trip.sl.v383 arg5 f5) (trip.sl.v385 arg5 f5) (trip.sl.v387 arg5 f5) (trip.sl.v388 arg5 f5) (arg6.view.writes (Elt F) arg6.view.junk (trip.sl.H6_2 arg3 f3 k)) (arg7.view.writes (Elt F) arg7.view.junk (⟨Rect.unit ![0, 0] S256x256.size inb_S256x256_S256x256_0_0, k0_pay160 (trip.sl.r arg2 f2 k) (View.readAt (Elt F) arg1.view (Rect.unit (s := S1024x1024) ![256, 0] S256x1024.size inb_S1024x1024_S256x1024_256_0).toLoadRect f1)⟩ :: trip.sl.H7_1 arg1 arg2 f1 f2 k)) (trip.sl.v353 arg5 f5, trip.sl.v355 arg5 f5, trip.sl.v357 arg5 f5, trip.sl.v359 arg5 f5, trip.sl.v361 arg5 f5, trip.sl.v363 arg5 f5, trip.sl.v365 arg5 f5, trip.sl.v367 arg5 f5, trip.sl.v369 arg5 f5, trip.sl.v371 arg5 f5, trip.sl.v373 arg5 f5, trip.sl.v375 arg5 f5, trip.sl.v377 arg5 f5, trip.sl.v379 arg5 f5, trip.sl.v381 arg5 f5, trip.sl.v383 arg5 f5, trip.sl.v385 arg5 f5, trip.sl.v387 arg5 f5, k0_pay253 (trip.sl.v388 arg5 f5), k0_pay254 (trip.sl.v390 arg5 f5)) (Scf.trips k0_t5_loop.lb k0_t5_loop.ub k0_t5_loop.st),
    st_k0_t6 Variants.none c none i arg1 harg1 arg2 harg2 arg3 harg3 arg4 harg4 arg5 harg5 arg6 harg6 arg7 harg7 (trip.sl.r_75 arg5 f5) (trip.sl.r_76 arg5 f5) (trip.sl.r_77 arg5 f5) (trip.sl.v467 arg5 f5) (trip.sl.v469 arg5 f5) (trip.sl.v471 arg5 f5) (trip.sl.v473 arg5 f5) (trip.sl.v475 arg5 f5) (trip.sl.v477 arg5 f5) (trip.sl.v479 arg5 f5) (trip.sl.v481 arg5 f5) (trip.sl.v483 arg5 f5) (trip.sl.v485 arg5 f5) (trip.sl.v487 arg5 f5) (trip.sl.v489 arg5 f5) (arg6.view.writes (Elt F) arg6.view.junk (trip.sl.H6_2 arg3 f3 k)) (arg7.view.writes (Elt F) arg7.view.junk (⟨Rect.unit ![0, 0] S256x256.size inb_S256x256_S256x256_0_0, k0_pay309 (trip.sl.r arg2 f2 k) (View.readAt (Elt F) arg1.view (Rect.unit (s := S1024x1024) ![512, 0] S256x1024.size inb_S1024x1024_S256x1024_512_0).toLoadRect f1)⟩ :: ⟨Rect.unit ![0, 0] S256x256.size inb_S256x256_S256x256_0_0, k0_pay160 (trip.sl.r arg2 f2 k) (View.readAt (Elt F) arg1.view (Rect.unit (s := S1024x1024) ![256, 0] S256x1024.size inb_S1024x1024_S256x1024_256_0).toLoadRect f1)⟩ :: trip.sl.H7_1 arg1 arg2 f1 f2 k)) (trip.sl.r_75 arg5 f5, trip.sl.r_76 arg5 f5, trip.sl.r_77 arg5 f5, trip.sl.v467 arg5 f5, trip.sl.v469 arg5 f5, trip.sl.v471 arg5 f5, trip.sl.v473 arg5 f5, trip.sl.v475 arg5 f5, trip.sl.v477 arg5 f5, trip.sl.v479 arg5 f5, trip.sl.v481 arg5 f5, trip.sl.v483 arg5 f5, trip.sl.v485 arg5 f5, trip.sl.v487 arg5 f5, trip.sl.v489 arg5 f5, k0_pay325 (trip.sl.v490 arg5 f5), k0_pay326 (trip.sl.v492 arg5 f5), k0_pay327 (trip.sl.v494 arg5 f5), k0_pay328 (trip.sl.v496 arg5 f5), k0_pay329 (trip.sl.v498 arg5 f5)) (Scf.trips k0_t6_loop.lb k0_t6_loop.ub k0_t6_loop.st),
    st_k0_t7 Variants.none c none i arg1 harg1 arg2 harg2 arg3 harg3 arg4 harg4 arg5 harg5 arg6 harg6 arg7 harg7 (trip.sl.v563 arg5 f5) (trip.sl.v565 arg5 f5) (trip.sl.v567 arg5 f5) (trip.sl.v569 arg5 f5) (trip.sl.v571 arg5 f5) (trip.sl.v573 arg5 f5) (trip.sl.v575 arg5 f5) (trip.sl.v577 arg5 f5) (trip.sl.v579 arg5 f5) (trip.sl.v581 arg5 f5) (trip.sl.v583 arg5 f5) (trip.sl.v585 arg5 f5) (trip.sl.v587 arg5 f5) (trip.sl.v589 arg5 f5) (arg6.view.writes (Elt F) arg6.view.junk (trip.sl.H6_2 arg3 f3 k)) (arg7.view.writes (Elt F) arg7.view.junk (⟨Rect.unit ![0, 0] S256x256.size inb_S256x256_S256x256_0_0, k0_pay309 (trip.sl.r arg2 f2 k) (View.readAt (Elt F) arg1.view (Rect.unit (s := S1024x1024) ![512, 0] S256x1024.size inb_S1024x1024_S256x1024_512_0).toLoadRect f1)⟩ :: ⟨Rect.unit ![0, 0] S256x256.size inb_S256x256_S256x256_0_0, k0_pay160 (trip.sl.r arg2 f2 k) (View.readAt (Elt F) arg1.view (Rect.unit (s := S1024x1024) ![256, 0] S256x1024.size inb_S1024x1024_S256x1024_256_0).toLoadRect f1)⟩ :: trip.sl.H7_1 arg1 arg2 f1 f2 k)) (trip.sl.v563 arg5 f5, trip.sl.v565 arg5 f5, trip.sl.v567 arg5 f5, trip.sl.v569 arg5 f5, trip.sl.v571 arg5 f5, trip.sl.v573 arg5 f5, trip.sl.v575 arg5 f5, trip.sl.v577 arg5 f5, trip.sl.v579 arg5 f5, trip.sl.v581 arg5 f5, trip.sl.v583 arg5 f5, trip.sl.v585 arg5 f5, trip.sl.v587 arg5 f5, trip.sl.v589 arg5 f5, k0_pay398 (trip.sl.v590 arg5 f5), k0_pay399 (trip.sl.v592 arg5 f5), k0_pay400 (trip.sl.v594 arg5 f5), k0_pay401 (trip.sl.v596 arg5 f5), k0_pay402 (trip.sl.v598 arg5 f5), k0_pay403 (trip.sl.v600 arg5 f5)) (Scf.trips k0_t7_loop.lb k0_t7_loop.ub k0_t7_loop.st),
    st_k0_t8 Variants.none c none i arg1 harg1 arg2 harg2 arg3 harg3 arg4 harg4 arg5 harg5 arg6 harg6 arg7 harg7 (trip.sl.r_111 arg5 f5) (trip.sl.r_112 arg5 f5) (trip.sl.r_113 arg5 f5) (trip.sl.r_114 arg5 f5) (trip.sl.r_115 arg5 f5) (trip.sl.r_116 arg5 f5) (trip.sl.r_117 arg5 f5) (trip.sl.r_118 arg5 f5) (trip.sl.r_119 arg5 f5) (trip.sl.r_120 arg5 f5) (arg6.view.writes (Elt F) arg6.view.junk (trip.sl.H6_2 arg3 f3 k)) (arg7.view.writes (Elt F) arg7.view.junk (⟨Rect.unit ![0, 0] S256x256.size inb_S256x256_S256x256_0_0, k0_pay459 (trip.sl.r arg2 f2 k) (trip.sl.v665 arg1 f1)⟩ :: ⟨Rect.unit ![0, 0] S256x256.size inb_S256x256_S256x256_0_0, k0_pay309 (trip.sl.r arg2 f2 k) (View.readAt (Elt F) arg1.view (Rect.unit (s := S1024x1024) ![512, 0] S256x1024.size inb_S1024x1024_S256x1024_512_0).toLoadRect f1)⟩ :: ⟨Rect.unit ![0, 0] S256x256.size inb_S256x256_S256x256_0_0, k0_pay160 (trip.sl.r arg2 f2 k) (View.readAt (Elt F) arg1.view (Rect.unit (s := S1024x1024) ![256, 0] S256x1024.size inb_S1024x1024_S256x1024_256_0).toLoadRect f1)⟩ :: trip.sl.H7_1 arg1 arg2 f1 f2 k)) (trip.sl.r_111 arg5 f5, trip.sl.r_112 arg5 f5, trip.sl.r_113 arg5 f5, trip.sl.r_114 arg5 f5, trip.sl.r_115 arg5 f5, trip.sl.r_116 arg5 f5, trip.sl.r_117 arg5 f5, trip.sl.r_118 arg5 f5, trip.sl.r_119 arg5 f5, trip.sl.r_120 arg5 f5, k0_pay470 (trip.sl.v690 arg5 f5), k0_pay471 (trip.sl.v692 arg5 f5), k0_pay472 (trip.sl.v694 arg5 f5), k0_pay473 (trip.sl.v696 arg5 f5), k0_pay474 (trip.sl.v698 arg5 f5), k0_pay475 (trip.sl.v700 arg5 f5), k0_pay476 (trip.sl.v702 arg5 f5), k0_pay477 (trip.sl.v704 arg5 f5), k0_pay478 (trip.sl.v706 arg5 f5), k0_pay479 (trip.sl.v708 arg5 f5)) (Scf.trips k0_t8_loop.lb k0_t8_loop.ub k0_t8_loop.st),
    st_k0_t9 Variants.none c none i arg1 harg1 arg2 harg2 arg3 harg3 arg4 harg4 arg5 harg5 arg6 harg6 arg7 harg7 (trip.sl.v773 arg5 f5) (trip.sl.v775 arg5 f5) (trip.sl.v777 arg5 f5) (trip.sl.v779 arg5 f5) (trip.sl.v781 arg5 f5) (trip.sl.v783 arg5 f5) (trip.sl.v785 arg5 f5) (trip.sl.v787 arg5 f5) (trip.sl.v789 arg5 f5) (arg6.view.writes (Elt F) arg6.view.junk (trip.sl.H6_2 arg3 f3 k)) (arg7.view.writes (Elt F) arg7.view.junk (⟨Rect.unit ![0, 0] S256x256.size inb_S256x256_S256x256_0_0, k0_pay459 (trip.sl.r arg2 f2 k) (trip.sl.v665 arg1 f1)⟩ :: ⟨Rect.unit ![0, 0] S256x256.size inb_S256x256_S256x256_0_0, k0_pay309 (trip.sl.r arg2 f2 k) (View.readAt (Elt F) arg1.view (Rect.unit (s := S1024x1024) ![512, 0] S256x1024.size inb_S1024x1024_S256x1024_512_0).toLoadRect f1)⟩ :: ⟨Rect.unit ![0, 0] S256x256.size inb_S256x256_S256x256_0_0, k0_pay160 (trip.sl.r arg2 f2 k) (View.readAt (Elt F) arg1.view (Rect.unit (s := S1024x1024) ![256, 0] S256x1024.size inb_S1024x1024_S256x1024_256_0).toLoadRect f1)⟩ :: trip.sl.H7_1 arg1 arg2 f1 f2 k)) (trip.sl.v773 arg5 f5, trip.sl.v775 arg5 f5, trip.sl.v777 arg5 f5, trip.sl.v779 arg5 f5, trip.sl.v781 arg5 f5, trip.sl.v783 arg5 f5, trip.sl.v785 arg5 f5, trip.sl.v787 arg5 f5, trip.sl.v789 arg5 f5, k0_pay543 (trip.sl.v790 arg5 f5), k0_pay544 (trip.sl.v792 arg5 f5), k0_pay545 (trip.sl.v794 arg5 f5), k0_pay546 (trip.sl.v796 arg5 f5), k0_pay547 (trip.sl.v798 arg5 f5), k0_pay548 (trip.sl.v800 arg5 f5), k0_pay549 (trip.sl.v802 arg5 f5), k0_pay550 (trip.sl.v804 arg5 f5), k0_pay551 (trip.sl.v806 arg5 f5), k0_pay552 (trip.sl.v808 arg5 f5), k0_pay553 (trip.sl.v810 arg5 f5)) (Scf.trips k0_t9_loop.lb k0_t9_loop.ub k0_t9_loop.st)]

/-- The stores of one trip on the state: of each lane group the twenty slots its insertion loop leaves. -/
theorem trip_pieces (c : Dev nD) (i : grid0.Coords) (arg1 : Memref sig .tc .vmem S1024x1024 .bf16) (harg1 : arg1.IsWhole) (arg2 : Memref sig .tc .vmem S2048x1024 .i8) (harg2 : arg2.IsWhole) (arg3 : Memref sig .tc .vmem S1x16x128 .f32) (harg3 : arg3.IsWhole) (arg4 : Memref sig .tc .vmem S20x1024 .f32) (harg4 : arg4.IsWhole) (arg5 : Memref sig .tc .vmem S20x8x1024 .f32) (harg5 : arg5.IsWhole) (arg6 : Memref sig .tc .vmem S256x128 .f32) (harg6 : arg6.IsWhole) (arg7 : Memref sig .tc .vmem S256x256 .f32) (harg7 : arg7.IsWhole)
    (f1 : BufTy.Contents (Elt F) arg1.view.ty) (f2 : BufTy.Contents (Elt F) arg2.view.ty) (f3 : BufTy.Contents (Elt F) arg3.view.ty)
    (f5 : BufTy.Contents (Elt F) arg5.view.ty) (k : Fin k0_t1_loop.trips) :
    (trip c i arg1 harg1 arg2 harg2 arg3 harg3 arg4 harg4 arg5 harg5 arg6 harg6 arg7 harg7 f1 f2 f3 f5 k).1 = allPieces pcState fun g => colV (tripTup c i arg1 harg1 arg2 harg2 arg3 harg3 arg4 harg4 arg5 harg5 arg6 harg6 arg7 harg7 f1 f2 f3 f5 k g) := by
  sl_kernel_rfl

/-- Each of a trip's eight insertion loops starts from the slots as loaded and takes in, one after the other, the scores of the
    32 groups of eight rows against the group's 128 queries. -/
theorem tripTup_eq (c : Dev nD) (i : grid0.Coords) (arg1 : Memref sig .tc .vmem S1024x1024 .bf16) (harg1 : arg1.IsWhole) (arg2 : Memref sig .tc .vmem S2048x1024 .i8) (harg2 : arg2.IsWhole) (arg3 : Memref sig .tc .vmem S1x16x128 .f32) (harg3 : arg3.IsWhole) (arg4 : Memref sig .tc .vmem S20x1024 .f32) (harg4 : arg4.IsWhole) (arg5 : Memref sig .tc .vmem S20x8x1024 .f32) (harg5 : arg5.IsWhole) (arg6 : Memref sig .tc .vmem S256x128 .f32) (harg6 : arg6.IsWhole) (arg7 : Memref sig .tc .vmem S256x256 .f32) (harg7 : arg7.IsWhole)
    (f1 : BufTy.Contents (Elt F) arg1.view.ty) (f2 : BufTy.Contents (Elt F) arg2.view.ty) (f3 : BufTy.Contents (Elt F) arg3.view.ty)
    (f5 : BufTy.Contents (Elt F) arg5.view.ty) (k : Fin k0_t1_loop.trips) (g : Fin 8) :
    tripTup c i arg1 harg1 arg2 harg2 arg3 harg3 arg4 harg4 arg5 harg5 arg6 harg6 arg7 harg7 f1 f2 f3 f5 k g
      = iter (scoreV arg6 arg7 (arg6.view.writes (Elt F) arg6.view.junk (trip.sl.H6_2 arg3 f3 k))
            (arg7.view.writes (Elt F) arg7.view.junk
              (((List.finRange 4).take (g.val / 2 + 1)).reverse.map (prodPiece arg1 arg2 f1 f2 k)))
            ⟨g.val % 2, Nat.mod_lt _ (by decide)⟩)
          (tup20 fun k' => ldState arg5 f5 k' g) 32 := by
  fin_cases g <;> sl_kernel_rfl

end Cert.KernelIdeal.Hand
-- ==== Proof.LastShape.lean ====
module

public import proofs.«01_k».proof.Proof.Shape

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL

variable {F : FTy → Type} [FloatOps F]

/-- The layers of a descending bitonic merge of a list of `2 ^ d` entries: each layer leaves the greater of every pair in the
    first half and the lesser in the second, and the halves go on by themselves. -/
def bit {α : Type} (mx mn : α → α → α) : ℕ → List α → List α
  | 0, l => l
  | d + 1, l => bit mx mn d (List.zipWith mx (l.take (2 ^ d)) (l.drop (2 ^ d))) ++ bit mx mn d (List.zipWith mn (l.take (2 ^ d)) (l.drop (2 ^ d)))

/-- Two lists of twenty laid against each other for the merge of 32: entry `i` of the first with entry `31 - i` of the second. -/
def against {α : Type} (mx : α → α → α) (a b : List α) : List α :=
  a.take 12 ++ List.zipWith mx (a.drop 12) (b.drop 12).reverse ++ (b.take 12).reverse

/-- The first twenty of the merge of two lists of twenty. -/
def merge20 {α : Type} (mx mn : α → α → α) (a b : List α) : List α := (bit mx mn 5 (against mx a b)).take 20

/-- One round across the sublanes: each sublane's list merged with the list of the sublane `s` before it. -/
def round20 (s : BitVec 32) (l : List (FVec F S8x128 .f32)) : List (FVec F S8x128 .f32) :=
  merge20 maximumf minimumf l (l.map fun v => dynamicRotate 0 s none v rotates_S8x128_d0)

/-- The three rounds. -/
def rounds (l : List (FVec F S8x128 .f32)) : List (FVec F S8x128 .f32) := round20 1#32 (round20 2#32 (round20 4#32 l))

/-- The stores of the last grid step on the result: of each lane group the twenty registers after the three rounds, from the
    state after the step's eight trips. -/
theorem lastRun_pieces (c : Dev nD) (i : grid0.Coords) (arg1 : Memref sig .tc .vmem S1024x1024 .bf16) (harg1 : arg1.IsWhole) (arg2 : Memref sig .tc .vmem S2048x1024 .i8) (harg2 : arg2.IsWhole) (arg3 : Memref sig .tc .vmem S1x16x128 .f32) (harg3 : arg3.IsWhole) (arg4 : Memref sig .tc .vmem S20x1024 .f32) (harg4 : arg4.IsWhole) (arg5 : Memref sig .tc .vmem S20x8x1024 .f32) (harg5 : arg5.IsWhole) (arg6 : Memref sig .tc .vmem S256x128 .f32) (harg6 : arg6.IsWhole) (arg7 : Memref sig .tc .vmem S256x256 .f32) (harg7 : arg7.IsWhole)
    (f1 : BufTy.Contents (Elt F) arg1.view.ty) (f2 : BufTy.Contents (Elt F) arg2.view.ty) (f3 : BufTy.Contents (Elt F) arg3.view.ty)
    (f5 : BufTy.Contents (Elt F) arg5.view.ty) (h1 : ¬ cond1 i = 1#1) (h2 : k0_cond2 i = 1#1) :
    (lastRun c i arg1 harg1 arg2 harg2 arg3 harg3 arg4 harg4 arg5 harg5 arg6 harg6 arg7 harg7 f1 f2 f3 f5 h1 h2).1 = allPieces pcTop (fun g k =>
      (rounds ((List.finRange 20).map fun k => ldState arg5 (stateAt c i arg1 harg1 arg2 harg2 arg3 harg3 arg4 harg4 arg5 harg5 arg6 harg6 arg7 harg7 f1 f2 f3 f5 (Scf.trips k0_t1_loop.lb k0_t1_loop.ub k0_t1_loop.st)) k g)).getD k (broadcast S8x128 (Scalar.ofBits .f32 0#32))) := by
  sl_kernel_rfl

end Cert.KernelIdeal.Hand
-- ==== Proof.TopMath.lean ====
module

public import proofs.«01_k».proof.Proof.LastShape
public import Idealize.ShloMosaic.Lib.SortNet.Lists
public import Idealize.ShloMosaic.Lib.SortNet.TopList

@[expose] public section

set_option maxRecDepth 16384
set_option maxHeartbeats 4000000

noncomputable section

namespace Cert.KernelIdeal.Hand

open Idealize.ShloMosaic Idealize.ShloMosaic.Tactic Idealize.ShloMosaic.SortNet

variable {α : Type} [LinearOrder α]

/-! ## Inserting into a descending list -/

/-- The insertion chain: each slot keeps the greater and hands the lesser on. -/
def insE : List α → α → List α
  | [], _ => []
  | a :: l, v => max a v :: insE l (min a v)

/-- What the chain drops at its end. -/
def restE : List α → α → α
  | [], v => v
  | a :: l, v => restE l (min a v)

/-- An insertion keeps the number of slots. -/
theorem length_insE : ∀ (l : List α) (v : α), (insE l v).length = l.length
  | [], _ => rfl
  | a :: l, v => congrArg (· + 1) (length_insE l (min a v))

/-- The chain rearranges the slots and the value inserted. -/
theorem insE_perm : ∀ (l : List α) (v : α), (insE l v ++ [restE l v]).Perm (v :: l)
  | [], v => List.Perm.refl _
  | a :: l, v => by
    have h := (insE_perm l (min a v)).cons (max a v)
    refine h.trans ?_
    rcases le_total a v with hav | hav
    · rw [max_eq_right hav, min_eq_left hav]
    · rw [max_eq_left hav, min_eq_right hav]
      exact List.Perm.swap _ _ _

/-- A descending list stays descending, and what is dropped is below all of it. -/
theorem insE_sorted : ∀ (l : List α) (v : α), l.Pairwise (· ≥ ·) → (insE l v ++ [restE l v]).Pairwise (· ≥ ·)
  | [], v, _ => List.pairwise_singleton _ _
  | a :: l, v, h => by
    rw [List.pairwise_cons] at h
    refine List.pairwise_cons.mpr ⟨fun b hb => ?_, insE_sorted l (min a v) h.2⟩
    rcases List.mem_cons.mp ((insE_perm l (min a v)).mem_iff.mp hb) with rfl | hb
    · exact min_le_left a v |>.trans (le_max_left a v)
    · exact (h.1 b hb).trans (le_max_left a v)

/-- One insertion into a descending list leaves the greatest entries of the list with the value. -/
theorem insE_eq (l : List α) (v : α) (h : l.Pairwise (· ≥ ·)) : insE l v = topList l.length (l ++ [v]) := by
  have hs := List.pairwise_append.mp (insE_sorted l v h)
  have e := eq_topList (l := l ++ [v]) (t := insE l v) (r := [restE l v])
    ((insE_perm l v).trans (List.perm_append_comm (l₁ := [v]) (l₂ := l))) hs.1 hs.2.2
  rwa [length_insE] at e

/-- Insertions one after the other keep the `k` greatest of all that went in. -/
theorem foldl_insE (k : ℕ) : ∀ (vs : List α) (L : List α), k ≤ L.length → vs.foldl insE (topList k L) = topList k (L ++ vs)
  | [], L, _ => by rw [List.append_nil]; rfl
  | v :: vs, L, hk => by
    have hlen : (topList k L).length = k := by rw [length_topList]; omega
    have e : insE (topList k L) v = topList k (L ++ [v]) := by
      rw [insE_eq _ _ (pairwise_topList k L), hlen, topList_append_topList]
    rw [List.foldl_cons, e, foldl_insE k vs (L ++ [v]) (by rw [List.length_append]; omega), List.append_assoc]
    rfl

/-! ## The merge of two descending lists of twenty -/

/-- The layers are the descending bitonic merge network of 32. -/
theorem bit_eq_net (f : Fin (2 ^ 5) → α) : bit (fun a b : α => max b a) (fun a b => min b a) 5 (List.ofFn f)
    = List.ofFn (Network.apply (mergeDescNet 5) f) := by
  sl_kernel_rfl

/-- The unrolled bitonic sort is the network, of a function's values. -/
theorem bit_eq_net' (f : Fin (2 ^ 5) → α) : bit (max : α → α → α) min 5 (List.ofFn f) = List.ofFn (Network.apply (mergeDescNet 5) f) := by
  rw [← bit_eq_net f, show (fun a b : α => max b a) = max from funext fun a => funext fun b => max_comm b a,
    show (fun a b : α => min b a) = min from funext fun a => funext fun b => min_comm b a]

variable [OrderBot α]

/-- A list of twenty as a vector of 32, the rest filled with the least value. -/
def pad (a : List α) : Fin (2 ^ 5) → α := fun i => a.getD i.val ⊥

/-- The padding keeps the entries. -/
theorem pad_lt (a : List α) (i : Fin (2 ^ 5)) (h : i.val < a.length) : pad a i = a[i.val] := by
  unfold pad; rw [List.getD_eq_getElem?_getD, List.getElem?_eq_getElem h]; rfl

/-- Past the entries the padding is the least value. -/
theorem pad_ge (a : List α) (i : Fin (2 ^ 5)) (h : a.length ≤ i.val) : pad a i = ⊥ := by
  unfold pad; rw [List.getD_eq_getElem?_getD, List.getElem?_eq_none h]; rfl

/-- The padding of a descending list descends. -/
theorem pad_antitone (a : List α) (h : a.Pairwise (· ≥ ·)) : Antitone (pad a) := by
  intro i j hij
  by_cases hj : j.val < a.length
  · have hi : i.val < a.length := lt_of_le_of_lt hij hj
    rw [pad_lt a i hi, pad_lt a j hj]
    rcases Nat.lt_or_ge i.val j.val with h' | h'
    · exact List.pairwise_iff_getElem.mp h i.val j.val hi hj h'
    · have e : i = j := Fin.ext (le_antisymm hij h')
      subst e; exact le_refl _
  · rw [pad_ge a j (not_lt.mp hj)]; exact bot_le

/-- The padded entries, as a list. -/
theorem ofFn_pad (a : List α) (h : a.length = 20) : List.ofFn (pad a) = a ++ List.replicate 12 ⊥ := by
  refine List.ext_getElem (by rw [List.length_ofFn, List.length_append, List.length_replicate, h]; rfl) fun i h1 h2 => ?_
  rw [List.length_ofFn] at h1
  rw [List.getElem_ofFn]
  by_cases hi : i < a.length
  · rw [pad_lt a _ hi, List.getElem_append_left hi]
  · rw [pad_ge a _ (not_lt.mp hi), List.getElem_append_right (not_lt.mp hi), List.getElem_replicate]

/-- One list against the other reversed is the first half-cleaning of the two, padded. -/
theorem against_eq (a b : List α) (ha : a.length = 20) (hb : b.length = 20) :
    against max a b = List.ofFn fun j => max (pad a j) (pad b (Fin.rev j)) := by
  unfold against
  refine List.ext_getElem ?_ fun i h1 h2 => ?_
  · simp only [List.length_append, List.length_take, List.length_zipWith, List.length_drop, List.length_reverse, List.length_ofFn, ha, hb]
    rfl
  · rw [List.length_ofFn] at h2
    rw [List.getElem_ofFn]
    have hr : (Fin.rev (⟨i, h2⟩ : Fin (2 ^ 5))).val = 31 - i := by rw [Fin.val_rev]; show 2 ^ 5 - (i + 1) = 31 - i; omega
    have l1 : (a.take 12).length = 12 := by rw [List.length_take, ha]; rfl
    have l2 : (List.zipWith max (a.drop 12) (b.drop 12).reverse).length = 8 := by
      rw [List.length_zipWith, List.length_reverse, List.length_drop, List.length_drop, ha, hb]; rfl
    by_cases c1 : i < 12
    · rw [List.getElem_append_left (by rw [List.length_append, l1, l2]; omega), List.getElem_append_left (by rw [l1]; omega), List.getElem_take]
      rw [pad_ge b _ (by rw [hr, hb]; omega), max_bot_right, pad_lt a _ (by show i < _; omega)]
    · by_cases c2 : i < 20
      · rw [List.getElem_append_left (by rw [List.length_append, l1, l2]; omega), List.getElem_append_right (by rw [l1]; omega), List.getElem_zipWith,
          List.getElem_reverse, List.getElem_drop, List.getElem_drop, pad_lt a _ (by show i < _; omega), pad_lt b _ (by rw [hr]; omega)]
        congr 2
        · rw [l1]; show 12 + (i - 12) = i; omega
        · rw [hr, l1, List.length_drop, hb]; omega
      · rw [List.getElem_append_right (by rw [List.length_append, l1, l2]; omega), List.getElem_reverse, List.getElem_take,
          pad_ge a _ (by show _ ≤ i; omega), max_bot_left, pad_lt b _ (by rw [hr]; have : i < 32 := h2; omega)]
        congr 1
        rw [hr, List.length_append, l1, l2, List.length_take, hb]
        have : i < 32 := h2
        omega

/-- The least value adds nothing to the `k` greatest of at least `k` entries. -/
theorem topList_append_replicate (k n : ℕ) (l : List α) (h : k ≤ l.length) : topList k (l ++ List.replicate n ⊥) = topList k l :=
  topList_append_of_le k l _ h fun s hs a _ => by rw [List.eq_of_mem_replicate hs]; exact bot_le

/-- The merge keeps the twenty greatest of two descending lists of twenty. -/
theorem merge20_eq (a b : List α) (ha : a.length = 20) (hb : b.length = 20) (sa : a.Pairwise (· ≥ ·)) (sb : b.Pairwise (· ≥ ·)) :
    merge20 max min a b = topList 20 (a ++ b) := by
  have e := (topOfTwo_eq_topList 5 (pad a) (pad b) (pad_antitone a sa) (pad_antitone b sb)).2
  have ht : ∀ l : List α, (topList (2 ^ 5) l).take 20 = topList 20 l := fun l => by
    unfold topList; rw [List.take_take]; rfl
  unfold merge20
  rw [against_eq a b ha hb, bit_eq_net', e, ht, ofFn_pad a ha, ofFn_pad b hb]
  have hp : ((a ++ List.replicate 12 ⊥) ++ (b ++ List.replicate 12 ⊥)).Perm ((a ++ b) ++ List.replicate 24 (⊥ : α)) := by
    rw [show (24 : ℕ) = 12 + 12 from rfl, List.replicate_add, List.append_assoc, List.append_assoc]
    refine List.Perm.append_left a ?_
    rw [← List.append_assoc, ← List.append_assoc]
    exact List.Perm.append_right _ List.perm_append_comm
  rw [topList_perm hp, topList_append_replicate 20 24 _ (by rw [List.length_append]; omega)]

/-! ## Pointwise -/

section Map

variable {β γ : Type} (f : β → γ) {mx mn : β → β → β} {mx' mn' : γ → γ → γ}

/-- A map that respects an operation goes through the operation entry by entry. -/
theorem map_zipWith_of (hx : ∀ a b, f (mx a b) = mx' (f a) (f b)) : ∀ l m : List β,
    (List.zipWith mx l m).map f = List.zipWith mx' (l.map f) (m.map f)
  | [], _ => rfl
  | _ :: _, [] => rfl
  | a :: l, b :: m => by
    rw [List.zipWith_cons_cons, List.map_cons, List.map_cons, List.map_cons, List.zipWith_cons_cons, hx, map_zipWith_of hx l m]

/-- A map that respects maximum and minimum goes through the bitonic sort. -/
theorem bit_map (hx : ∀ a b, f (mx a b) = mx' (f a) (f b)) (hn : ∀ a b, f (mn a b) = mn' (f a) (f b)) :
    ∀ (d : ℕ) (l : List β), (bit mx mn d l).map f = bit mx' mn' d (l.map f)
  | 0, _ => rfl
  | d + 1, l => by
    rw [bit, bit, List.map_append, bit_map hx hn d, bit_map hx hn d, map_zipWith_of f hx, map_zipWith_of f hn, List.map_take, List.map_drop]

/-- A map that respects the two operations goes through the merge. -/
theorem merge20_map (hx : ∀ a b, f (mx a b) = mx' (f a) (f b)) (hn : ∀ a b, f (mn a b) = mn' (f a) (f b)) (a b : List β) :
    (merge20 mx mn a b).map f = merge20 mx' mn' (a.map f) (b.map f) := by
  unfold merge20 against
  rw [List.map_take, bit_map f hx hn, List.map_append, List.map_append, map_zipWith_of f hx]
  simp only [List.map_take, List.map_drop, List.map_reverse]

end Map

end Cert.KernelIdeal.Hand
-- ==== Proof.TripVal.lean ====
module

public import proofs.«01_k».proof.Proof.TripShape
public import proofs.«01_k».proof.Proof.TopMath
public import Idealize.ShloMosaic.Lib.Pipeline.Value
public import Idealize.ShloMosaic.Lib.Pointwise.Reshape
public import Idealize.ShloMosaic.Lib.Pointwise.Tactic
public import Idealize.ShloMosaic.Lib.Pointwise.Contract

@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL

variable {F : FTy → Type} [FloatOps F]

/-! ## Reading the stores of one trip, and those of the last step -/

/-- Query `128 g + l`. -/
def lane (g : Fin 8) (l : Fin 128) : Fin 1024 := ⟨128 * g.val + l.val, by omega⟩

/-- The pieces are those of all lane groups and slots. -/
theorem mem_allPieces {S : Shape} {pc : Fin 20 → Fin 8 → FVec F S8x128 .f32 → View.Piece (Elt F) S .f32} {W : Fin 8 → Fin 20 → FVec F S8x128 .f32}
    {p : View.Piece (Elt F) S .f32} : p ∈ allPieces pc W ↔ ∃ g k, p = pc k g (W g k) := by
  unfold allPieces
  simp only [List.mem_flatMap, List.mem_reverse, List.mem_finRange, true_and, List.mem_map]
  exact ⟨fun ⟨g, k, h⟩ => ⟨g, k, h.symm⟩, fun ⟨g, k, h⟩ => ⟨g, k, h.symm⟩⟩

/-- After the stores of all slots and lane groups, slot `k` of sublane `s` at query `128 g + l` reads what was stored there. -/
theorem read_allState (arg5 : Memref sig .tc .vmem S20x8x1024 .f32) (f : BufTy.Contents (Elt F) arg5.view.ty) (W : Fin 8 → Fin 20 → FVec F S8x128 .f32)
    (k : Fin 20) (s : Fin 8) (g : Fin 8) (l : Fin 128) :
    arg5.view.read (Elt F) (arg5.view.writes (Elt F) f (allPieces pcState W)) (ix3 k s (lane g l)) = W g k (ix2 s l) := by
  have he : (pcState (F := F) k g (W g k)).1.emb (ix3 (0 : Fin 1) s l) = ix3 k s (lane g l) := by
    exact Rect.emb_eq_of_coords _ _ _ fun a => by fin_cases a <;> simp [pcState, lane]
  rw [← he, View.read_writes_of_unique _ _ (pcState (F := F) k g (W g k)) (ix3 (0 : Fin 1) s l) _ (mem_allPieces.mpr ⟨g, k, rfl⟩) ?_]
  · exact (shapeCast_addUnit_apply ![8, 128] (W g k) shapeCasts_S8x128_S1x8x128 (ix3 (0 : Fin 1) s l)).trans
      (congrArg (W g k) (funext fun a => by fin_cases a <;> rfl))
  · rintro q hq hm
    obtain ⟨g', k', rfl⟩ := mem_allPieces.mp hq
    rw [he] at hm
    have hm' := (Rect.mem_set_unit (inb := inbState k' g')).mp hm
    have h0 := hm' 0; have h2 := hm' 2
    simp [lane] at h0 h2
    have e1 : k' = k := Fin.ext (by omega)
    have e2 : g' = g := Fin.ext (by omega)
    subst e1 e2; rfl

/-- The same of the result: row `k` at query `128 g + l` is the first sublane of what was stored. -/
theorem read_allTop (arg4 : Memref sig .tc .vmem S20x1024 .f32) (f : BufTy.Contents (Elt F) arg4.view.ty) (W : Fin 8 → Fin 20 → FVec F S8x128 .f32)
    (k : Fin 20) (g : Fin 8) (l : Fin 128) :
    arg4.view.read (Elt F) (arg4.view.writes (Elt F) f (allPieces pcTop W)) (ix2 k (lane g l)) = W g k (ix2 0 l) := by
  have he : (pcTop (F := F) k g (W g k)).1.emb (ix2 (0 : Fin 1) l) = ix2 k (lane g l) := by
    exact Rect.emb_eq_of_coords _ _ _ fun a => by fin_cases a <;> simp [pcTop, lane]
  rw [← he, View.read_writes_of_unique _ _ (pcTop (F := F) k g (W g k)) (ix2 (0 : Fin 1) l) _ (mem_allPieces.mpr ⟨g, k, rfl⟩) ?_]
  · show extractStridedSlice S1x128 ![0, 0] (W g k) slices_S8x128_o0_0_S1x128 (ix2 (0 : Fin 1) l) = _
    pointwise
  · rintro q hq hm
    obtain ⟨g', k', rfl⟩ := mem_allPieces.mp hq
    rw [he] at hm
    have hm' := (Rect.mem_set_unit (inb := inbTop k' g')).mp hm
    have h0 := hm' 0; have h1 := hm' 1
    simp [lane] at h0 h1
    have e1 : k' = k := Fin.ext (by omega)
    have e2 : g' = g := Fin.ext (by omega)
    subst e1 e2; rfl

/-- A slot as loaded, at sublane `s` and lane `l`. -/
theorem ldState_apply (arg5 : Memref sig .tc .vmem S20x8x1024 .f32) (f5 : BufTy.Contents (Elt F) arg5.view.ty) (k : Fin 20) (g : Fin 8) (s : Fin 8) (l : Fin 128) :
    ldState arg5 f5 k g (ix2 s l) = arg5.view.read (Elt F) f5 (ix3 k s (lane g l)) := by
  unfold ldState
  refine (shapeCast_dropUnit_apply ![8, 128] _ shapeCasts_S1x8x128_S8x128 (ix2 s l)).trans ?_
  rw [View.readAt_apply]
  exact congrArg _ (Rect.emb_eq_of_coords _ _ _ fun a => by fin_cases a <;> simp [lane] <;> rfl)

/-! ## The scales and the products staged for one trip -/

/-- The block loop has eight trips. -/
theorem trips_t1 : k0_t1_loop.trips = 8 := by decide

/-- A row of 128 scales spread over the lanes: row `r` holds scale `r`. -/
theorem pay9_apply (v : Vec F S1x1x128 .f32) (r l : Fin 128) : k0_pay9 v (ix2 r l) = v (ix3 (0 : Fin 1) (0 : Fin 1) r) := by
  unfold k0_pay9
  pointwise

/-- The scales of one trip, spread over the lanes: row `r` holds the scale of the trip's row `r`. -/
theorem read_scale (arg3 : Memref sig .tc .vmem S1x16x128 .f32) (arg6 : Memref sig .tc .vmem S256x128 .f32) (f3 : BufTy.Contents (Elt F) arg3.view.ty) (k : Fin k0_t1_loop.trips) (r : Fin 256) (l : Fin 128)
    (hr : 2 * k.val + r.val / 128 < 16) :
    arg6.view.read (Elt F) (arg6.view.writes (Elt F) arg6.view.junk (trip.sl.H6_2 arg3 f3 k)) (ix2 r l)
      = arg3.view.read (Elt F) f3 (ix3 (0 : Fin 1) ⟨2 * k.val + r.val / 128, hr⟩ ⟨r.val % 128, Nat.mod_lt _ (by decide)⟩) := by
  unfold trip.sl.H6_2
  by_cases h : r.val < 128
  · rw [View.read_writes_cons_miss _ _ _ _ _ (fun hm => by
      have := (Rect.mem_set_unit (inb := inb_S256x128_S128x128_128_0)).mp hm 0
      simp at this; omega)]
    have he : (Rect.unit (s := S256x128) ![0, 0] S128x128.size inb_S256x128_S128x128_0_0).emb (ix2 (⟨r.val, h⟩ : Fin 128) l) = ix2 r l :=
      Rect.emb_eq_of_coords _ _ _ fun a => by fin_cases a <;> simp
    rw [← he, View.read_writes_cons_emb]
    refine (pay9_apply _ ⟨r.val, h⟩ l).trans ?_
    rw [View.readAt_apply]
    refine congrArg _ (Rect.emb_eq_of_coords _ _ _ fun a => ?_)
    show _ = (k0_off1 k (BitVec.ofNat 32 (0 : Fin 2).val)) a + _
    rw [k0_off1_eq k 0]
    fin_cases a <;> simp <;> omega
  · have he : (Rect.unit (s := S256x128) ![128, 0] S128x128.size inb_S256x128_S128x128_128_0).emb (ix2 (⟨r.val - 128, by omega⟩ : Fin 128) l) = ix2 r l :=
      Rect.emb_eq_of_coords _ _ _ fun a => by fin_cases a <;> simp <;> omega
    rw [← he, View.read_writes_cons_emb]
    refine (pay9_apply _ ⟨r.val - 128, by omega⟩ l).trans ?_
    rw [View.readAt_apply]
    refine congrArg _ (Rect.emb_eq_of_coords _ _ _ fun a => ?_)
    show _ = (k0_off1 k (BitVec.ofNat 32 (1 : Fin 2).val)) a + _
    rw [k0_off1_eq k 1]
    fin_cases a <;> simp <;> omega

/-- The score of row `r` of a step's block against query `q`: the inner product with the row's integer codes, times the row's scale. -/
def scE (X1 : Vec Ideal S1024x1024 .bf16) (X2 : Vec Ideal S2048x1024 .i8) (X3 : Vec Ideal S1x16x128 .f32) (q : Fin 1024) (r : Fin 2048) : EReal :=
  (∑ d : Fin 1024, (FloatOps.sitofp .bf16 (X2 (ix2 r d)) : Ideal .bf16) * X1 (ix2 q d)) * X3 (ix3 (0 : Fin 1) ⟨r.val / 128, by omega⟩ ⟨r.val % 128, Nat.mod_lt _ (by decide)⟩)

/-- An entry of a block product: the sum over the features. -/
theorem pay11_apply (A : Vec Ideal S256x1024 .i8) (B : Vec Ideal S256x1024 .bf16) (r l : Fin 256) :
    k0_pay11 (F := Ideal) A B (ix2 r l) = ∑ d : Fin 1024, (FloatOps.sitofp .bf16 (A (ix2 r d)) : Ideal .bf16) * B (ix2 l d) := by
  unfold k0_pay11 k0_pay10
  pointwise

/-- The products of one trip as they are read back: row `r` of the trip against query `256 q + l`. -/
theorem read_prod (arg1 : Memref sig .tc .vmem S1024x1024 .bf16) (arg2 : Memref sig .tc .vmem S2048x1024 .i8) (arg7 : Memref sig .tc .vmem S256x256 .f32)
    (f1 : BufTy.Contents (Elt Ideal) arg1.view.ty) (f2 : BufTy.Contents (Elt Ideal) arg2.view.ty) (k : Fin k0_t1_loop.trips) (q : Fin 4) (r l : Fin 256)
    (hr : 256 * k.val + r.val < 2048) :
    arg7.view.read (Elt Ideal) (arg7.view.writes (Elt Ideal) arg7.view.junk (((List.finRange 4).take (q.val + 1)).reverse.map (prodPiece arg1 arg2 f1 f2 k))) (ix2 r l)
      = ∑ d : Fin 1024, (FloatOps.sitofp .bf16 (arg2.view.read (Elt Ideal) f2 (ix2 ⟨256 * k.val + r.val, hr⟩ d)) : Ideal .bf16)
          * arg1.view.read (Elt Ideal) f1 (ix2 ⟨256 * q.val + l.val, by omega⟩ d) := by
  have hl : ∃ L, ((List.finRange 4).take (q.val + 1)).reverse = q :: L := by
    fin_cases q <;> exact ⟨_, rfl⟩
  obtain ⟨L, hL⟩ := hl
  rw [hL, List.map_cons]
  have he : (prodPiece (F := Ideal) arg1 arg2 f1 f2 k q).1.emb (ix2 r l) = ix2 r l :=
    Rect.emb_eq_of_coords _ _ _ fun a => by fin_cases a <;> simp [prodPiece]
  rw [← he]
  refine (View.read_writes_cons_emb arg7.view _ (prodPiece (F := Ideal) arg1 arg2 f1 f2 k q).1 (prodPiece (F := Ideal) arg1 arg2 f1 f2 k q).2 _ _).trans ?_
  refine (pay11_apply _ _ r l).trans (Finset.sum_congr rfl fun d _ => ?_)
  rw [View.readAt_apply, View.readAt_apply]
  have e1 : (Rect.unit (s := S2048x1024) (k0_off2 k) S256x1024.size (k0_off2_inb k)).toLoadRect.idx (ix2 r d) = ix2 ⟨256 * k.val + r.val, hr⟩ d :=
    Rect.emb_eq_of_coords _ _ _ fun a => by
      have ho := congrFun (k0_off2_eq k) a
      show _ = (k0_off2 k) a + 1 * (ix2 r d a).val
      rw [ho]
      fin_cases a <;> simp
  have e2 : (Rect.unit (s := S1024x1024) ![256 * q.val, 0] S256x1024.size (inbX q)).toLoadRect.idx (ix2 l d) = ix2 ⟨256 * q.val + l.val, by omega⟩ d :=
    Rect.emb_eq_of_coords _ _ _ fun a => by fin_cases a <;> simp
  rw [e1, e2]

/-! ## The insertions, one column at a time -/

/-- The slots of a tuple made of slots. -/
theorem colV_tup20 (w : Fin 20 → FVec F S8x128 .f32) : colV (tup20 w) = w := by
  funext k; fin_cases k <;> rfl

/-- At one place, an insertion on registers is an insertion on numbers. -/
theorem map_insV (y : S8x128.Idx) : ∀ (l : List (FVec Ideal S8x128 .f32)) (v : FVec Ideal S8x128 .f32),
    (insV l v).map (fun u => (u y : EReal)) = insE (l.map fun u => (u y : EReal)) (v y)
  | [], _ => rfl
  | a :: l, v => congrArg (List.cons _) (map_insV y l (minimumf a v))

/-- An insertion keeps the number of registers. -/
theorem length_insV : ∀ (l : List (FVec F S8x128 .f32)) (v : FVec F S8x128 .f32), (insV l v).length = l.length
  | [], _ => rfl
  | a :: l, v => congrArg (· + 1) (length_insV l (minimumf a v))

/-- One column of the twenty slots. -/
def colT (t : T20 Ideal) (y : S8x128.Idx) : List EReal := List.ofFn fun k => (colV t k y : EReal)

/-- At one place, an insertion on the tuple is an insertion on numbers. -/
theorem colT_insT (t : T20 Ideal) (v : FVec Ideal S8x128 .f32) (y : S8x128.Idx) : colT (insT v t) y = insE (colT t y) (v y) := by
  have e : List.ofFn (colV (insT v t)) = insV (List.ofFn (colV t)) v := by
    unfold insT
    rw [colV_tup20]
    have hlen : (insV (List.ofFn (colV t)) v).length = 20 := by rw [length_insV, List.length_ofFn]
    refine List.ext_getElem (by rw [List.length_ofFn, hlen]) fun n h1 h2 => ?_
    rw [List.getElem_ofFn, List.getD_eq_getElem?_getD, List.getElem?_eq_getElem h2]; rfl
  have e2 : ∀ t : T20 Ideal, colT t y = (List.ofFn (colV t)).map fun u => (u y : EReal) := fun t => by
    unfold colT; rw [List.map_ofFn]; rfl
  rw [e2, e, map_insV, ← e2]

/-- At one place, the insertion loop inserts its rows one after the other. -/
theorem colT_iter (w : Fin 32 → FVec Ideal S8x128 .f32) (init : T20 Ideal) (y : S8x128.Idx) :
    ∀ n, n ≤ 32 → colT (iter w init n) y = (((List.finRange 32).take n).map fun j => (w j y : EReal)).foldl insE (colT init y)
  | 0, _ => rfl
  | n + 1, h => by
    have hn : n < 32 := by omega
    have et : (List.finRange 32).take (n + 1) = (List.finRange 32).take n ++ [⟨n, hn⟩] := by
      rw [List.take_add_one, List.getElem?_eq_getElem (by rw [List.length_finRange]; exact hn), List.getElem_finRange]; rfl
    rw [iter, dif_pos hn, colT_insT, colT_iter w init y n (by omega), et, List.map_append, List.foldl_append]
    rfl

/-- One column of the state: the twenty slots of sublane `s` at query `q`. -/
def colS (X : Vec Ideal S20x8x1024 .f32) (s : Fin 8) (q : Fin 1024) : List EReal := List.ofFn fun k : Fin 20 => (X (ix3 k s q) : EReal)

/-- The scores read for one insertion, at sublane `s` and lane `l`. -/
theorem scoreV_apply (arg1 : Memref sig .tc .vmem S1024x1024 .bf16) (arg2 : Memref sig .tc .vmem S2048x1024 .i8) (arg3 : Memref sig .tc .vmem S1x16x128 .f32)
    (arg6 : Memref sig .tc .vmem S256x128 .f32) (arg7 : Memref sig .tc .vmem S256x256 .f32)
    (f1 : BufTy.Contents (Elt Ideal) arg1.view.ty) (f2 : BufTy.Contents (Elt Ideal) arg2.view.ty) (f3 : BufTy.Contents (Elt Ideal) arg3.view.ty)
    (k : Fin k0_t1_loop.trips) (g : Fin 8) (j : Fin 32) (s : Fin 8) (l : Fin 128) (hr : 256 * k.val + 8 * j.val + s.val < 2048) :
    scoreV (F := Ideal) arg6 arg7 (arg6.view.writes (Elt Ideal) arg6.view.junk (trip.sl.H6_2 arg3 f3 k))
        (arg7.view.writes (Elt Ideal) arg7.view.junk (((List.finRange 4).take (g.val / 2 + 1)).reverse.map (prodPiece arg1 arg2 f1 f2 k)))
        ⟨g.val % 2, Nat.mod_lt _ (by decide)⟩ j (ix2 s l)
      = scE (arg1.view.read (Elt Ideal) f1) (arg2.view.read (Elt Ideal) f2) (arg3.view.read (Elt Ideal) f3) (lane g l) ⟨256 * k.val + 8 * j.val + s.val, hr⟩ := by
  have hk : k.val < 8 := k.isLt
  have e7 : (Rect.unit (s := S256x256) ![8 * j.val, 128 * (g.val % 2)] S8x128.size (inb7 ⟨g.val % 2, Nat.mod_lt _ (by decide)⟩ j)).toLoadRect.idx (ix2 s l)
      = ix2 (⟨8 * j.val + s.val, by omega⟩ : Fin 256) (⟨128 * (g.val % 2) + l.val, by omega⟩ : Fin 256) :=
    Rect.emb_eq_of_coords _ _ _ fun a => by fin_cases a <;> simp
  have e6 : (Rect.unit (s := S256x128) ![8 * j.val, 0] S8x128.size (inb6 j)).toLoadRect.idx (ix2 s l)
      = ix2 (⟨8 * j.val + s.val, by omega⟩ : Fin 256) l :=
    Rect.emb_eq_of_coords _ _ _ fun a => by fin_cases a <;> simp
  have p := read_prod arg1 arg2 arg7 f1 f2 k ⟨g.val / 2, by omega⟩ ⟨8 * j.val + s.val, by omega⟩ ⟨128 * (g.val % 2) + l.val, by omega⟩ (by show _ + (8 * j.val + s.val) < _; omega)
  have r := read_scale (F := Ideal) arg3 arg6 f3 k ⟨8 * j.val + s.val, by omega⟩ l (by show _ + (8 * j.val + s.val) / 128 < _; omega)
  unfold scoreV scoreO
  rw [mulf_apply, View.readAt_apply, View.readAt_apply, e7, e6]
  refine (congrArg₂ (fun a b : EReal => a * b) p r).trans ?_
  unfold scE
  refine congrArg₂ (fun a b : EReal => a * b) (Finset.sum_congr rfl fun d _ => ?_) ?_
  · refine congrArg₂ (fun a b : EReal => a * b) (congrArg _ (congrArg _ ?_)) (congrArg _ ?_)
    · exact congrArg (ix2 · d) (Fin.ext (by show 256 * k.val + (8 * j.val + s.val) = 256 * k.val + 8 * j.val + s.val; omega))
    · exact congrArg (ix2 · d) (Fin.ext (by show 256 * (g.val / 2) + (128 * (g.val % 2) + l.val) = 128 * g.val + l.val; omega))
  · refine congrArg _ (congrArg₂ (ix3 0) (Fin.ext ?_) (Fin.ext ?_))
    · show 2 * k.val + (8 * j.val + s.val) / 128 = (256 * k.val + 8 * j.val + s.val) / 128; omega
    · show (8 * j.val + s.val) % 128 = (256 * k.val + 8 * j.val + s.val) % 128; omega

/-- ONE TRIP, one column: the 32 rows of the trip that fall on the sublane are inserted one after the other. -/
theorem trip_col (c : Dev nD) (i : grid0.Coords) (arg1 : Memref sig .tc .vmem S1024x1024 .bf16) (harg1 : arg1.IsWhole) (arg2 : Memref sig .tc .vmem S2048x1024 .i8) (harg2 : arg2.IsWhole) (arg3 : Memref sig .tc .vmem S1x16x128 .f32) (harg3 : arg3.IsWhole) (arg4 : Memref sig .tc .vmem S20x1024 .f32) (harg4 : arg4.IsWhole) (arg5 : Memref sig .tc .vmem S20x8x1024 .f32) (harg5 : arg5.IsWhole) (arg6 : Memref sig .tc .vmem S256x128 .f32) (harg6 : arg6.IsWhole) (arg7 : Memref sig .tc .vmem S256x256 .f32) (harg7 : arg7.IsWhole)
    (f1 : BufTy.Contents (Elt Ideal) arg1.view.ty) (f2 : BufTy.Contents (Elt Ideal) arg2.view.ty) (f3 : BufTy.Contents (Elt Ideal) arg3.view.ty)
    (f5 : BufTy.Contents (Elt Ideal) arg5.view.ty) (k : Fin k0_t1_loop.trips) (s : Fin 8) (q : Fin 1024) :
    colS (arg5.view.read (Elt Ideal) (arg5.view.writes (Elt Ideal) f5 (trip (F := Ideal) c i arg1 harg1 arg2 harg2 arg3 harg3 arg4 harg4 arg5 harg5 arg6 harg6 arg7 harg7 f1 f2 f3 f5 k).1)) s q
      = ((List.finRange 32).map fun j => scE (arg1.view.read (Elt Ideal) f1) (arg2.view.read (Elt Ideal) f2) (arg3.view.read (Elt Ideal) f3) q
          ⟨256 * k.val + 8 * j.val + s.val, by have : k.val < 8 := k.isLt; omega⟩).foldl insE (colS (arg5.view.read (Elt Ideal) f5) s q) := by
  have hq : q = lane ⟨q.val / 128, by omega⟩ ⟨q.val % 128, Nat.mod_lt _ (by decide)⟩ := Fin.ext (by show q.val = 128 * (q.val / 128) + q.val % 128; omega)
  rw [hq]
  generalize (⟨q.val / 128, _⟩ : Fin 8) = g
  generalize (⟨q.val % 128, _⟩ : Fin 128) = l
  have e1 : colS (arg5.view.read (Elt Ideal) (arg5.view.writes (Elt Ideal) f5 (trip (F := Ideal) c i arg1 harg1 arg2 harg2 arg3 harg3 arg4 harg4 arg5 harg5 arg6 harg6 arg7 harg7 f1 f2 f3 f5 k).1)) s (lane g l)
      = colT (tripTup (F := Ideal) c i arg1 harg1 arg2 harg2 arg3 harg3 arg4 harg4 arg5 harg5 arg6 harg6 arg7 harg7 f1 f2 f3 f5 k g) (ix2 s l) := by
    unfold colS colT
    refine congrArg List.ofFn (funext fun k' => ?_)
    rw [trip_pieces, read_allState]
  have e2 : colT (tup20 fun k' => ldState arg5 f5 k' g) (ix2 s l) = colS (arg5.view.read (Elt Ideal) f5) s (lane g l) := by
    unfold colS colT
    refine congrArg List.ofFn (funext fun k' => ?_)
    rw [colV_tup20, ldState_apply]
  have et : (List.finRange 32).take 32 = List.finRange 32 := List.take_of_length_le (by rw [List.length_finRange])
  rw [e1, tripTup_eq, colT_iter _ _ _ 32 le_rfl, e2, et]
  refine congrArg (List.foldl insE (colS (arg5.view.read (Elt Ideal) f5) s (lane g l))) (List.map_congr_left fun j _ => ?_)
  exact scoreV_apply arg1 arg2 arg3 arg6 arg7 f1 f2 f3 k g j s l _

end Cert.KernelIdeal.Hand
-- ==== Proof.LastVal.lean ====
module

public import proofs.«01_k».proof.Proof.TripVal

@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic Idealize.ShloMosaic.SortNet
open Idealize.SL

/-! ## The three rounds across the sublanes -/

/-- One column of a list of vectors. -/
def colL (l : List (FVec Ideal S8x128 .f32)) (s : Fin 8) (q : Fin 128) : List EReal := l.map fun u => (u (ix2 s q) : EReal)

/-- The sublane `d` before `s`, round the eight. -/
def before (s : Fin 8) (d : ℕ) : Fin 8 := ⟨(s.val + 8 - d % 8) % 8, Nat.mod_lt _ (by decide)⟩

/-- A rotation of the sublanes by `d` reads the sublane `d` before. -/
theorem rotate_apply (d : BitVec 32) (v : FVec Ideal S8x128 .f32) (s : Fin 8) (q : Fin 128) :
    dynamicRotate 0 d none v rotates_S8x128_d0 (ix2 s q) = v (ix2 (before s d.toNat) q) := by
  rw [Pointwise.dynamicRotate_apply]
  refine congrArg v ?_
  funext a; fin_cases a <;> rfl

/-- A round merges a sublane's list with that of the sublane `d` before it: of two lists that are the twenty greatest of what
    they stand for, it leaves the twenty greatest of both together. -/
theorem colL_round20 (d : BitVec 32) (l : List (FVec Ideal S8x128 .f32)) (q : Fin 128) (U : Fin 8 → List EReal)
    (hU : ∀ s, colL l s q = topList 20 (U s)) (hlen : l.length = 20) (s : Fin 8) :
    colL (round20 d l) s q = topList 20 (U s ++ U (before s d.toNat)) := by
  have hm : colL (l.map fun v => dynamicRotate 0 d none v rotates_S8x128_d0) s q = colL l (before s d.toNat) q := by
    unfold colL
    rw [List.map_map]
    exact List.map_congr_left fun v _ => rotate_apply d v s q
  have hl : ∀ s, (colL l s q).length = 20 := fun s => by unfold colL; rw [List.length_map, hlen]
  have hs : ∀ s, (colL l s q).Pairwise (· ≥ ·) := fun s => by rw [hU]; exact pairwise_topList 20 _
  have hx : ∀ a b : FVec Ideal S8x128 .f32, ((maximumf a b) (ix2 s q) : EReal) = max (a (ix2 s q) : EReal) (b (ix2 s q)) := fun _ _ => rfl
  have hn : ∀ a b : FVec Ideal S8x128 .f32, ((minimumf a b) (ix2 s q) : EReal) = min (a (ix2 s q) : EReal) (b (ix2 s q)) := fun _ _ => rfl
  have e := merge20_map (fun u : FVec Ideal S8x128 .f32 => (u (ix2 s q) : EReal)) hx hn l (l.map fun v => dynamicRotate 0 d none v rotates_S8x128_d0)
  have e' : colL (round20 d l) s q = merge20 max min (colL l s q) (colL l (before s d.toNat) q) := e.trans (by rw [← hm]; rfl)
  rw [e', merge20_eq _ _ (hl s) (hl _) (hs s) (hs _), hU, hU, topList_append_topList_topList]

/-- The bitonic sort keeps the length. -/
theorem length_bit {α : Type} (mx mn : α → α → α) : ∀ (d : ℕ) (l : List α), l.length = 2 ^ d → (bit mx mn d l).length = 2 ^ d
  | 0, l, h => h
  | d + 1, l, h => by
    have h1 : (l.take (2 ^ d)).length = 2 ^ d := by rw [List.length_take, h, pow_succ]; omega
    have h2 : (l.drop (2 ^ d)).length = 2 ^ d := by rw [List.length_drop, h, pow_succ]; omega
    rw [bit, List.length_append, length_bit mx mn d _ (by rw [List.length_zipWith, h1, h2, min_self]),
      length_bit mx mn d _ (by rw [List.length_zipWith, h1, h2, min_self]), pow_succ]; omega

/-- A round keeps the twenty registers. -/
theorem length_round20 (d : BitVec 32) (l : List (FVec Ideal S8x128 .f32)) (h : l.length = 20) : (round20 d l).length = 20 := by
  unfold round20 merge20
  rw [List.length_take, length_bit]
  · rfl
  · unfold against
    simp only [List.length_append, List.length_take, List.length_zipWith, List.length_drop, List.length_reverse, List.length_map, h]
    rfl

/-- After the three rounds the first sublane holds the twenty greatest of what all eight stand for. -/
theorem colL_rounds (l : List (FVec Ideal S8x128 .f32)) (q : Fin 128) (U : Fin 8 → List EReal)
    (hU : ∀ s, colL l s q = topList 20 (U s)) (hlen : l.length = 20) :
    colL (rounds l) 0 q = topList 20 ((List.finRange 8).flatMap U) := by
  have h4 := colL_round20 4#32 l q U hU hlen
  have h2 := colL_round20 2#32 _ q _ h4 (length_round20 _ _ hlen)
  have h1 := colL_round20 1#32 _ q _ h2 (length_round20 _ _ (length_round20 _ _ hlen)) 0
  refine h1.trans ?_
  have b4 : ∀ s : Fin 8, before s (4#32).toNat = (![4, 5, 6, 7, 0, 1, 2, 3] : Fin 8 → Fin 8) s := by decide
  have b2 : ∀ s : Fin 8, before s (2#32).toNat = (![6, 7, 0, 1, 2, 3, 4, 5] : Fin 8 → Fin 8) s := by decide
  have b1 : before 0 (1#32).toNat = 7 := by decide
  simp only [b4, b2, b1]
  have hp : ((((U 0 ++ U 4) ++ (U 6 ++ U 2)) ++ ((U 7 ++ U 3) ++ (U 5 ++ U 1))) : List EReal).Perm ((List.finRange 8).flatMap U) := by
    have e8 : (List.finRange 8).flatMap U = ([0, 1, 2, 3, 4, 5, 6, 7] : List (Fin 8)).flatMap U := rfl
    have e8' : ((([0, 4, 6, 2, 7, 3, 5, 1] : List (Fin 8)).flatMap U)) = (((U 0 ++ U 4) ++ (U 6 ++ U 2)) ++ ((U 7 ++ U 3) ++ (U 5 ++ U 1))) := by
      simp [List.flatMap_cons]
    rw [e8, ← e8']
    exact List.Perm.flatMap_right _ (by decide)
  exact topList_perm hp

end Cert.KernelIdeal.Hand
-- ==== Proof.StepVal.lean ====
module

public import proofs.«01_k».proof.Proof.LastVal
public import proofs.«01_k».proof.Proof.Run
public import Idealize.ShloMosaic.Lib.Pipeline.ValueKit

@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic Idealize.ShloMosaic.SortNet
open Idealize.SL

/-! ## The lists of rows -/

/-- The rows of each of the eight sublanes, one sublane after the other, are all the rows. -/
theorem rows_perm {β : Type} (f : ℕ → β) : ∀ n : ℕ,
    ((List.finRange 8).flatMap fun s => (List.range n).map fun j => f (8 * j + s.val)).Perm ((List.range (8 * n)).map f)
  | 0 => List.Perm.refl _
  | n + 1 => by
    have e1 : (fun s : Fin 8 => (List.range (n + 1)).map fun j => f (8 * j + s.val))
        = fun s : Fin 8 => ((List.range n).map fun j => f (8 * j + s.val)) ++ [f (8 * n + s.val)] := by
      funext s; rw [List.range_succ, List.map_append]; rfl
    have e2 : (List.range (8 * (n + 1))).map f = (List.range (8 * n)).map f ++ (List.finRange 8).flatMap fun s : Fin 8 => [f (8 * n + s.val)] := by
      rw [Nat.mul_succ, List.range_add, List.map_append, List.map_map]; rfl
    rw [e1, e2]
    exact (List.flatMap_append_perm _ _ _).symm.trans (List.Perm.append_right _ (rows_perm f n))

/-- Filling values put into each list come last. -/
theorem fill_perm {β : Type} (b : β) (k : ℕ) (U : Fin 8 → List β) :
    ((List.finRange 8).flatMap fun s => List.replicate k b ++ U s).Perm ((List.finRange 8).flatMap U ++ List.replicate (8 * k) b) := by
  refine (List.flatMap_append_perm _ _ _).symm.trans (List.perm_append_comm.trans (List.Perm.append_left _ ?_))
  refine List.Perm.of_eq (List.eq_replicate_iff.mpr ⟨?_, fun x hx => ?_⟩)
  · rw [List.length_flatMap]; simp; omega
  · obtain ⟨s, _, h⟩ := List.mem_flatMap.mp hx; exact List.eq_of_mem_replicate h

/-- What the slots of sublane `s` hold once the first `n` rows of that sublane are in: the twenty greatest of their scores and of
    twenty least values. -/
def sub (f : ℕ → EReal) (s : Fin 8) (n : ℕ) : List EReal := topList 20 (List.replicate 20 ⊥ ++ (List.range n).map fun j => f (8 * j + s.val))

/-- Taking in `k` more rows. -/
theorem sub_add (f : ℕ → EReal) (s : Fin 8) (n k : ℕ) :
    ((List.range k).map fun j => f (8 * (n + j) + s.val)).foldl insE (sub f s n) = sub f s (n + k) := by
  unfold sub
  rw [foldl_insE 20 _ _ (by rw [List.length_append, List.length_replicate]; omega), List.append_assoc, List.range_add, List.map_append, List.map_map]
  rfl

/-- The twenty greatest over all eight sublanes are the twenty greatest of all rows. -/
theorem topList_subs (f : ℕ → EReal) (n : ℕ) (h : 20 ≤ 8 * n) :
    topList 20 ((List.finRange 8).flatMap fun s => List.replicate 20 ⊥ ++ (List.range n).map fun j => f (8 * j + s.val))
      = topList 20 ((List.range (8 * n)).map f) := by
  rw [topList_perm ((fill_perm ⊥ 20 _).trans (List.Perm.append_right _ (rows_perm f n))),
    topList_append_replicate 20 _ _ (by rw [List.length_map, List.length_range]; exact h)]

/-! ## The scores of the whole database -/

/-- The score of row `n` against query `q`. -/
def score (x : S8x128x1024.Idx → EReal) (codes : S360448x1024.Idx → BitVec 8) (scales : S360448.Idx → EReal) (q : Fin 1024) (n : ℕ) : EReal :=
  if h : n < 360448 then
    (∑ d : Fin 1024, (FloatOps.sitofp .bf16 (codes (ix2 ⟨n, h⟩ d)) : Ideal .bf16) * x (ix3 ⟨q.val / 128, by omega⟩ ⟨q.val % 128, Nat.mod_lt _ (by decide)⟩ d))
      * scales (ix1 ⟨n, h⟩)
  else ⊥

variable (m : (ℓ : Loc nD τ sig) → Buf (Elt Ideal) ℓ)

/-- The score at the arguments in memory. -/
abbrev mscore (c : Dev nD) : Fin 1024 → ℕ → EReal :=
  score (m ((c.tc : Thread nD τ).loc main_arg0)) (m ((c.tc : Thread nD τ).loc main_arg1)) (m ((c.tc : Thread nD τ).loc main_arg2))

/-- The block of a grid step along the step's own axis is the step's number. -/
theorem index_step (t : Fin cfg0.N) : win0_1.index t 0 = t.val ∧ win0_2.index t 0 = t.val := by
  have ht : t.val < 176 := t.isLt
  have h : (BitVec.ofNat 32 (grid0.coords t 0).val).toNat = t.val := by
    rw [coord_val, BitVec.toNat_ofNat, Nat.mod_eq_of_lt (by omega)]
  exact ⟨h, h⟩

/-- Along the other axes the block is the first. -/
theorem index_zero (t : Fin cfg0.N) :
    win0_0.index t 0 = 0 ∧ win0_0.index t 1 = 0 ∧ win0_1.index t 1 = 0 ∧ win0_2.index t 1 = 0 ∧ win0_2.index t 2 = 0 := by
  refine ⟨?_, ?_, ?_, ?_, ?_⟩ <;> rfl

/-- A block's row is the database's row. -/
theorem scE_block (c : Dev nD) (t : Fin cfg0.N) (q : Fin 1024) (r : Fin 2048) :
    scE (iblk m c 0 t) (iblk m c 1 t) (iblk m c 2 t) q r = mscore m c q (2048 * t.val + r.val) := by
  have ht : t.val < 176 := t.isLt
  have hn : 2048 * t.val + r.val < 360448 := by omega
  obtain ⟨e1, e2⟩ := index_step t
  obtain ⟨o1, o2, o3, o4, o5⟩ := index_zero t
  unfold mscore score scE
  rw [dif_pos hn]
  refine congrArg₂ (fun a b : EReal => a * b) (Finset.sum_congr rfl fun d _ => congrArg₂ (fun a b : EReal => a * b) (congrArg _ ?_) ?_) ?_
  · blk_ext! [iblk, e1, o3]; all_goals omega
  · blk_ext! [iblk, o1, o2]; all_goals omega
  · blk_ext! [iblk, e2, o4, o5]; all_goals omega

/-! ## One grid step -/

/-- The state before grid step `n`: each sublane's twenty greatest of the rows met so far. -/
def SI (c : Dev nD) (n : ℕ) (X : Vec Ideal S20x8x1024 .f32) : Prop :=
  ∀ (s : Fin 8) (q : Fin 1024), colS X s q = sub (mscore m c q) s (256 * n)

/-- The rows of one trip in one sublane. -/
theorem trip_rows (c : Dev nD) (t : Fin cfg0.N) (s : Fin 8) (q : Fin 1024) (n : ℕ) (hn : n + 1 ≤ 8) :
    ((List.finRange 32).map fun j : Fin 32 => scE (iblk m c 0 t) (iblk m c 1 t) (iblk m c 2 t) q ⟨256 * n + 8 * j.val + s.val, by omega⟩)
      = (List.range 32).map fun j => mscore m c q (8 * (256 * t.val + 32 * n + j) + s.val) := by
  rw [← List.map_coe_finRange_eq_range, List.map_map]
  refine List.map_congr_left fun j _ => ?_
  rw [scE_block]
  exact congrArg _ (by show 2048 * t.val + (256 * n + 8 * j.val + s.val) = 8 * (256 * t.val + 32 * n + j.val) + s.val; omega)

/-- The trips of a grid step put the step's rows in. -/
theorem state_trips (c : Dev nD) (t : Fin cfg0.N) (i : grid0.Coords) (arg1 : Memref sig .tc .vmem S1024x1024 .bf16) (harg1 : arg1.IsWhole) (arg2 : Memref sig .tc .vmem S2048x1024 .i8) (harg2 : arg2.IsWhole) (arg3 : Memref sig .tc .vmem S1x16x128 .f32) (harg3 : arg3.IsWhole) (arg4 : Memref sig .tc .vmem S20x1024 .f32) (harg4 : arg4.IsWhole) (arg5 : Memref sig .tc .vmem S20x8x1024 .f32) (harg5 : arg5.IsWhole) (arg6 : Memref sig .tc .vmem S256x128 .f32) (harg6 : arg6.IsWhole) (arg7 : Memref sig .tc .vmem S256x256 .f32) (harg7 : arg7.IsWhole)
    (f1 : BufTy.Contents (Elt Ideal) arg1.view.ty) (f2 : BufTy.Contents (Elt Ideal) arg2.view.ty) (f3 : BufTy.Contents (Elt Ideal) arg3.view.ty)
    (f5 : BufTy.Contents (Elt Ideal) arg5.view.ty)
    (h1 : arg1.view.read (Elt Ideal) f1 = iblk m c 0 t) (h2 : arg2.view.read (Elt Ideal) f2 = iblk m c 1 t) (h3 : arg3.view.read (Elt Ideal) f3 = iblk m c 2 t)
    (h5 : SI m c t.val (arg5.view.read (Elt Ideal) f5)) (s : Fin 8) (q : Fin 1024) :
    ∀ n : ℕ, n ≤ 8 →
    colS (arg5.view.read (Elt Ideal) (stateAt c i arg1 harg1 arg2 harg2 arg3 harg3 arg4 harg4 arg5 harg5 arg6 harg6 arg7 harg7 f1 f2 f3 f5 n)) s q
      = sub (mscore m c q) s (256 * t.val + 32 * n) := by
  intro n
  induction n with
  | zero => exact fun _ => h5 s q
  | succ n IH =>
    intro hn
    have ih := IH (by omega)
    have hk : n < k0_t1_loop.trips := by rw [trips_t1]; omega
    rw [stateAt_succ c i arg1 harg1 arg2 harg2 arg3 harg3 arg4 harg4 arg5 harg5 arg6 harg6 arg7 harg7 f1 f2 f3 f5 ⟨n, hk⟩, trip_col, ih, h1, h2, h3]
    exact (congrArg (List.foldl insE (sub (mscore m c q) s (256 * t.val + 32 * n))) (trip_rows m c t s q n hn)).trans
      (sub_add (mscore m c q) s (256 * t.val + 32 * n) 32)

/-- A whole grid step. -/
theorem state_step (c : Dev nD) (t : Fin cfg0.N) (i : grid0.Coords) (arg1 : Memref sig .tc .vmem S1024x1024 .bf16) (harg1 : arg1.IsWhole) (arg2 : Memref sig .tc .vmem S2048x1024 .i8) (harg2 : arg2.IsWhole) (arg3 : Memref sig .tc .vmem S1x16x128 .f32) (harg3 : arg3.IsWhole) (arg4 : Memref sig .tc .vmem S20x1024 .f32) (harg4 : arg4.IsWhole) (arg5 : Memref sig .tc .vmem S20x8x1024 .f32) (harg5 : arg5.IsWhole) (arg6 : Memref sig .tc .vmem S256x128 .f32) (harg6 : arg6.IsWhole) (arg7 : Memref sig .tc .vmem S256x256 .f32) (harg7 : arg7.IsWhole)
    (f1 : BufTy.Contents (Elt Ideal) arg1.view.ty) (f2 : BufTy.Contents (Elt Ideal) arg2.view.ty) (f3 : BufTy.Contents (Elt Ideal) arg3.view.ty)
    (f5 : BufTy.Contents (Elt Ideal) arg5.view.ty)
    (h1 : arg1.view.read (Elt Ideal) f1 = iblk m c 0 t) (h2 : arg2.view.read (Elt Ideal) f2 = iblk m c 1 t) (h3 : arg3.view.read (Elt Ideal) f3 = iblk m c 2 t)
    (h5 : SI m c t.val (arg5.view.read (Elt Ideal) f5)) :
    SI m c (t.val + 1) (arg5.view.read (Elt Ideal) (stateAt c i arg1 harg1 arg2 harg2 arg3 harg3 arg4 harg4 arg5 harg5 arg6 harg6 arg7 harg7 f1 f2 f3 f5 8)) := fun s q =>
  state_trips m c t i arg1 harg1 arg2 harg2 arg3 harg3 arg4 harg4 arg5 harg5 arg6 harg6 arg7 harg7 f1 f2 f3 f5 h1 h2 h3 h5 s q 8 le_rfl

/-- Before the first step the state holds the least value everywhere. -/
theorem state_init (c : Dev nD) (arg5 : Memref sig .tc .vmem S20x8x1024 .f32) : SI m c 0 (arg5.view.read (Elt Ideal) (stateInit (F := Ideal) arg5)) := by
  intro s q
  have e : ∀ k : Fin 20, arg5.view.read (Elt Ideal) (stateInit (F := Ideal) arg5) (ix3 k s q) = (⊥ : EReal) := by
    intro k
    unfold stateInit
    have he : (Rect.unit (s := S20x8x1024) ![0, 0, 0] S20x8x1024.size inb_S20x8x1024_S20x8x1024_0_0_0).emb (ix3 k s q) = ix3 k s q :=
      Rect.emb_eq_of_coords _ _ _ fun a => by fin_cases a <;> simp
    exact (congrArg _ he.symm).trans ((View.read_writes_cons_emb _ _ _ _ _ _).trans (by unfold_payloads; pointwise; simp [Ideal.ofBits, Ideal.ieee]))
  unfold colS sub
  rw [show (fun k : Fin 20 => arg5.view.read (Elt Ideal) (stateInit (F := Ideal) arg5) (ix3 k s q)) = fun _ => (⊥ : EReal) from funext e,
    List.ofFn_const]
  exact (topList_eq_self (by simp [List.pairwise_replicate]) (by simp)).symm

/-! ## The last step -/

/-- Query `q`'s column of the result: the twenty greatest of the scores of all rows. -/
def RI (c : Dev nD) (X : Vec Ideal S20x1024 .f32) : Prop :=
  ∀ q : Fin 1024, (List.ofFn fun k : Fin 20 => (X (ix2 k q) : EReal)) = topList 20 ((List.range (8 * 45056)).map (mscore m c q))

/-- The entries of a list of twenty registers at one place. -/
theorem ofFn_getD (R : List (FVec Ideal S8x128 .f32)) (hR : R.length = 20) (d : FVec Ideal S8x128 .f32) (p : S8x128.Idx) :
    (List.ofFn fun k : Fin 20 => (R.getD k.val d p : EReal)) = R.map fun u => u p := by
  refine List.ext_getElem (by rw [List.length_ofFn, List.length_map, hR]) fun k hk _ => ?_
  have hk' : k < 20 := by rwa [List.length_ofFn] at hk
  rw [List.getElem_ofFn, List.getElem_map]
  rw [List.getD_eq_getElem?_getD, List.getElem?_eq_getElem (by rw [hR]; exact hk')]; rfl

/-- The merge of the eight sublanes leaves the result. -/
theorem result_last (c : Dev nD) (i : grid0.Coords) (arg1 : Memref sig .tc .vmem S1024x1024 .bf16) (harg1 : arg1.IsWhole) (arg2 : Memref sig .tc .vmem S2048x1024 .i8) (harg2 : arg2.IsWhole) (arg3 : Memref sig .tc .vmem S1x16x128 .f32) (harg3 : arg3.IsWhole) (arg4 : Memref sig .tc .vmem S20x1024 .f32) (harg4 : arg4.IsWhole) (arg5 : Memref sig .tc .vmem S20x8x1024 .f32) (harg5 : arg5.IsWhole) (arg6 : Memref sig .tc .vmem S256x128 .f32) (harg6 : arg6.IsWhole) (arg7 : Memref sig .tc .vmem S256x256 .f32) (harg7 : arg7.IsWhole)
    (f1 : BufTy.Contents (Elt Ideal) arg1.view.ty) (f2 : BufTy.Contents (Elt Ideal) arg2.view.ty) (f3 : BufTy.Contents (Elt Ideal) arg3.view.ty)
    (f4 : BufTy.Contents (Elt Ideal) arg4.view.ty) (f5 : BufTy.Contents (Elt Ideal) arg5.view.ty) (h1 : ¬ cond1 i = 1#1) (h2 : k0_cond2 i = 1#1)
    (h5 : SI m c 176 (arg5.view.read (Elt Ideal) (stateAt c i arg1 harg1 arg2 harg2 arg3 harg3 arg4 harg4 arg5 harg5 arg6 harg6 arg7 harg7 f1 f2 f3 f5 8))) :
    RI m c (arg4.view.read (Elt Ideal) (arg4.view.writes (Elt Ideal) f4
      (lastRun (F := Ideal) c i arg1 harg1 arg2 harg2 arg3 harg3 arg4 harg4 arg5 harg5 arg6 harg6 arg7 harg7 f1 f2 f3 f5 h1 h2).1)) := by
  intro q
  have hq : q = lane ⟨q.val / 128, by omega⟩ ⟨q.val % 128, Nat.mod_lt _ (by decide)⟩ := Fin.ext (by show q.val = 128 * (q.val / 128) + q.val % 128; omega)
  rw [hq]
  generalize (⟨q.val / 128, _⟩ : Fin 8) = g
  generalize (⟨q.val % 128, _⟩ : Fin 128) = l
  rw [lastRun_pieces]
  have h5' : SI m c 176 (arg5.view.read (Elt Ideal) (stateAt c i arg1 harg1 arg2 harg2 arg3 harg3 arg4 harg4 arg5 harg5 arg6 harg6 arg7 harg7 f1 f2 f3 f5 (Scf.trips k0_t1_loop.lb k0_t1_loop.ub k0_t1_loop.st))) := h5
  generalize stateAt c i arg1 harg1 arg2 harg2 arg3 harg3 arg4 harg4 arg5 harg5 arg6 harg6 arg7 harg7 f1 f2 f3 f5 (Scf.trips k0_t1_loop.lb k0_t1_loop.ub k0_t1_loop.st) = S at h5' ⊢
  have hlen : ((List.finRange 20).map fun k => ldState (F := Ideal) arg5 S k g).length = 20 := by rw [List.length_map, List.length_finRange]
  have hcol := colL_rounds ((List.finRange 20).map fun k => ldState (F := Ideal) arg5 S k g) l
    (fun s => List.replicate 20 ⊥ ++ (List.range (256 * 176)).map fun j => mscore m c (lane g l) (8 * j + s.val)) (fun s => by
      refine Eq.trans ?_ (h5' s (lane g l))
      unfold colL colS
      rw [List.map_map, List.ofFn_eq_map]
      exact List.map_congr_left fun k _ => ldState_apply arg5 S k g s l) hlen
  rw [topList_subs _ (256 * 176) (by omega)] at hcol
  refine Eq.trans ?_ hcol
  have hlr : (rounds ((List.finRange 20).map fun k => ldState (F := Ideal) arg5 S k g)).length = 20 :=
    length_round20 _ _ (length_round20 _ _ (length_round20 _ _ hlen))
  refine Eq.trans ?_ (ofFn_getD _ hlr (broadcast S8x128 (Scalar.ofBits .f32 0#32)) (ix2 (0 : Fin 8) l))
  exact congrArg List.ofFn (funext fun k => read_allTop arg4 f4 _ k g l)

/-- The state and the result through all grid steps. -/
theorem keeps : Keeps m (SI m) (RI m) where
  first c t f1 f2 f3 ht h1 h2 h3 := by
    have h := state_step m c t (grid0.coords t) (st0_0 t) (hst0 t) (st0_1 t) (hst1 t) (st0_2 t) (hst2 t) (st0_3 t) (hst3 t)
      scr0 (Memref.isWhole_whole _) scr1 (Memref.isWhole_whole _) scr2 (Memref.isWhole_whole _) f1 f2 f3 (stateInit scr0) h1 h2 h3 (ht ▸ state_init m c scr0)
    rw [ht] at h
    exact h
  mid c t f1 f2 f3 f5 _ _ h1 h2 h3 h5 :=
    state_step m c t (grid0.coords t) (st0_0 t) (hst0 t) (st0_1 t) (hst1 t) (st0_2 t) (hst2 t) (st0_3 t) (hst3 t)
      scr0 (Memref.isWhole_whole _) scr1 (Memref.isWhole_whole _) scr2 (Memref.isWhole_whole _) f1 f2 f3 f5 h1 h2 h3 h5
  last c t f1 f2 f3 f4 f5 g1 g2 ht h1 h2 h3 h5 := by
    have h := state_step m c t (grid0.coords t) (st0_0 t) (hst0 t) (st0_1 t) (hst1 t) (st0_2 t) (hst2 t) (st0_3 t) (hst3 t)
      scr0 (Memref.isWhole_whole _) scr1 (Memref.isWhole_whole _) scr2 (Memref.isWhole_whole _) f1 f2 f3 f5 h1 h2 h3 (ht ▸ h5)
    rw [ht] at h
    exact result_last m c (grid0.coords t) (st0_0 t) (hst0 t) (st0_1 t) (hst1 t) (st0_2 t) (hst2 t) (st0_3 t) (hst3 t)
      scr0 (Memref.isWhole_whole _) scr1 (Memref.isWhole_whole _) scr2 (Memref.isWhole_whole _) f1 f2 f3 f4 f5 g1 g2 h

end Cert.KernelIdeal.Hand
-- ==== Proof.RefVal.lean ====
module

public import proofs.«01_k».proof.Proof.Gen.ReferenceIdeal.Run
public import Idealize.ShloMosaic.Lib.SortFacts
public import Idealize.ShloMosaic.Lib.SortNet.TopList
public import Idealize.ShloMosaic.Lib.Pointwise.Reshape
public import Idealize.ShloMosaic.Lib.Pointwise.Contract
public import Idealize.ShloMosaic.Lib.Pointwise.Tactic

@[expose] public section

set_option maxRecDepth 16384
set_option maxHeartbeats 400000

noncomputable section

namespace Cert.ReferenceIdeal.Hand

open Cert.ReferenceIdeal Cert.ReferenceIdeal.Gen
open Idealize.ShloMosaic Idealize.ShloMosaic.TcCoe Idealize.ShloMosaic.Tactic Idealize.ShloMosaic.SortNet

/-- The first `k` of a list's elements, taken through the stable sort with the greater first, are its `k` greatest. -/
theorem sorted_top (n k : ℕ) (h : k ≤ n) (f : Fin n → EReal) (B : Fin n → Fin n → Bool) (hB : ∀ a b, B a b = decide (f b < f a)) :
    (List.ofFn fun j : Fin k => f (sortedFrom B ⟨j.val, by omega⟩)) = topList k (List.ofFn f) := by
  have hp : ((sortPositions n B).map f).Perm (List.ofFn f) := by
    rw [List.ofFn_eq_map]
    exact (perm_sortPositions n B).map f
  have hs : ((sortPositions n B).map f).Pairwise (· ≥ ·) := by
    rw [List.pairwise_map]
    refine (pairwise_stableSort B B ?_ (fun _ _ h => h) ?_ (List.finRange n)).imp fun {a b} hab => ?_
    · intro a b; simp only [hB, decide_eq_true_eq, decide_eq_false_iff_not, not_lt]; exact fun h => h.le
    · intro a b c; simp only [hB, decide_eq_false_iff_not, not_lt]; exact fun h1 h2 => h1.trans h2
    · simpa only [hB, decide_eq_false_iff_not, not_lt] using hab
  have hl : ((sortPositions n B).map f).length = n := by rw [List.length_map, length_sortPositions]
  have ht : (((sortPositions n B).map f).take k).length = k := by rw [List.length_take, hl, Nat.min_eq_left h]
  have e : (List.ofFn fun j : Fin k => f (sortedFrom B ⟨j.val, by omega⟩)) = ((sortPositions n B).map f).take k := by
    refine List.ext_getElem (by rw [List.length_ofFn, ht]) fun i h1 h2 => ?_
    rw [List.getElem_ofFn, List.getElem_take, List.getElem_map]
    rfl
  rw [e]
  have := eq_topList (t := ((sortPositions n B).map f).take k) (r := ((sortPositions n B).map f).drop k) (l := List.ofFn f)
    (by rw [List.take_append_drop]; exact hp) (hs.sublist (List.take_sublist _ _)) (fun a ha b hb => by
      have h2 := hs
      rw [← List.take_append_drop k ((sortPositions n B).map f), List.pairwise_append] at h2
      exact h2.2.2 a ha b hb)
  rwa [ht] at this

/-- One row of the host's top-k, over rows of any length `n`. -/
theorem topK_row (r n k : ℕ) (h : k ≤ n) (x : (⟨2, ![r, n]⟩ : Shape).Idx → EReal)
    (hs : (⟨2, ![r, n]⟩ : Shape).Slices (fun _ => 0) ⟨2, ![r, k]⟩) (q : Fin r) :
    (List.ofFn fun j : Fin k => (Host.topK (⟨2, ![r, k]⟩ : Shape) 1 (FloatOps.cmpfTotal (F := Ideal) (φ := .f32) .gt) x hs).1 (ix2 q j))
      = topList k (List.ofFn fun j : Fin n => x (ix2 q j)) := by
  refine Eq.trans (congrArg List.ofFn (funext fun j => ?_)) (sorted_top n k h (fun j : Fin n => x (ix2 q j))
    (fun a b => FloatOps.cmpfTotal (F := Ideal) (φ := .f32) .gt (x (ix2 q a)) (x (ix2 q b)) == 1#1) fun a b => ?_)
  · have hj : j.val < n := by omega
    unfold Host.topK
    pointwise
    unfold Host.sort2
    rw [dif_pos (show 1 < (⟨2, ![r, n]⟩ : Shape).rank from Nat.one_lt_two)]
    have e1 : ∀ (J : (⟨2, ![r, n]⟩ : Shape).Idx), J = ix2 q (⟨j.val, hj⟩ : Fin n) → ∀ k' : Fin n, J.along (⟨1, Nat.one_lt_two⟩ : Fin 2) k' = ix2 q k' := by
      rintro J rfl k'
      funext a
      match a with
      | ⟨0, _⟩ => rfl
      | ⟨1, _⟩ => rfl
    have e2 : ∀ (J : (⟨2, ![r, n]⟩ : Shape).Idx), J = ix2 q (⟨j.val, hj⟩ : Fin n) →
        x (J.along (⟨1, Nat.one_lt_two⟩ : Fin 2) (sortedFrom (fun a b : Fin n => FloatOps.cmpfTotal (F := Ideal) (φ := .f32) .gt
          (x (J.along (⟨1, Nat.one_lt_two⟩ : Fin 2) a)) (x (J.along (⟨1, Nat.one_lt_two⟩ : Fin 2) b)) == 1#1) (J 1)))
        = x (ix2 q (sortedFrom (fun a b : Fin n => FloatOps.cmpfTotal (F := Ideal) (φ := .f32) .gt (x (ix2 q a)) (x (ix2 q b)) == 1#1) ⟨j.val, hj⟩)) := by
      intro J hJ
      simp only [e1 J hJ]
      rw [hJ]
      exact congrArg x (e1 _ rfl _)
    refine e2 _ ?_
    funext a
    match a with
    | ⟨0, _⟩ => rfl
    | ⟨1, _⟩ => rfl
  · show (BitVec.ofBool (decide (x (ix2 q b) < x (ix2 q a))) == 1#1) = _
    cases decide (x (ix2 q b) < x (ix2 q a)) <;> rfl

/-- The scores the reference sorts. -/
theorem score_ref (x : S8x128x1024.Idx → Ideal .bf16) (codes : S360448x1024.Idx → BitVec 8) (scales : S360448.Idx → Ideal .f32)
    (q : Fin 1024) (n : Fin 360448) :
    (mulf (Host.dotGeneral dot_S1024x1024_S360448x1024_S1024x360448_1_1_0_0_n_n none (shapeCast _ x shapeCasts_S8x128x1024_S1024x1024) (truncf .bf16 (sitofp .f32 (extsi 32 codes natLt_8_32)) bitsLt_bf16_f32)) (broadcastInDim S1024x360448 ![0, 1] bcast_S1x360448_S1024x360448_0_1 (broadcastInDim S1x360448 ![1] bcast_S360448_S1x360448_1 scales)) : FVec Ideal S1024x360448 .f32) (ix2 q n)
      = (∑ d : Fin 1024, (FloatOps.sitofp .bf16 (codes (ix2 n d)) : Ideal .bf16) * x (ix3 ⟨q.val / 128, by omega⟩ ⟨q.val % 128, Nat.mod_lt _ (by decide)⟩ d)) * scales (ix1 n) := by
  rw [Idealize.ShloMosaic.mulf_apply]
  pointwise
  refine congrArg (fun a : EReal => a * scales (ix1 n)) (Finset.sum_congr rfl fun d _ => ?_)
  rw [mul_comm]
  refine congrArg (fun a : EReal => a * _) ?_
  show (((BitVec.signExtend 32 (codes (ix2 n d))).toInt : ℝ) : EReal) = (((codes (ix2 n d)).toInt : ℝ) : EReal)
  rw [BitVec.toInt_signExtend_of_le (by decide)]

/-- The reference's result: query `q`'s column holds the greatest of its scores. -/
theorem result_ref (x : S8x128x1024.Idx → Ideal .bf16) (codes : S360448x1024.Idx → BitVec 8) (scales : S360448.Idx → Ideal .f32) (q : Fin 1024) :
    (List.ofFn fun k : Fin 20 => (transpose S20x1024 [1, 0] ((Host.topK S1024x20 1 (FloatOps.cmpfTotal (F := Ideal) (φ := .f32) .gt) (mulf (Host.dotGeneral dot_S1024x1024_S360448x1024_S1024x360448_1_1_0_0_n_n none (shapeCast _ x shapeCasts_S8x128x1024_S1024x1024) (truncf .bf16 (sitofp .f32 (extsi 32 codes natLt_8_32)) bitsLt_bf16_f32)) (broadcastInDim S1024x360448 ![0, 1] bcast_S1x360448_S1024x360448_0_1 (broadcastInDim S1x360448 ![1] bcast_S360448_S1x360448_1 scales))) sliceFits_S1024x360448_S1024x20).1) transposes_S1024x20_S20x1024_1_0 (ix2 k q) : EReal))
      = topList 20 (List.ofFn fun n : Fin 360448 => (∑ d : Fin 1024, (FloatOps.sitofp .bf16 (codes (ix2 n d)) : Ideal .bf16) * x (ix3 ⟨q.val / 128, by omega⟩ ⟨q.val % 128, Nat.mod_lt _ (by decide)⟩ d)) * scales (ix1 n)) := by
  refine Eq.trans (congrArg List.ofFn (funext fun k => ?_)) ((topK_row 1024 360448 20 (by omega) _ sliceFits_S1024x360448_S1024x20 q).trans
    (congrArg (fun f => topList 20 (List.ofFn f)) (funext fun n => score_ref x codes scales q n)))
  pointwise

end Cert.ReferenceIdeal.Hand
-- ==== Proof.Value.lean ====
module

public import proofs.«01_k».proof.Defs
public import proofs.«01_k».proof.Proof.StepVal
public import proofs.«01_k».proof.Proof.RefVal

@[expose] public section

set_option maxRecDepth 16384
set_option maxHeartbeats 400000

noncomputable section

namespace Cert.Value

open Idealize.ShloMosaic Idealize.ShloMosaic.TcCoe Idealize.ShloMosaic.SortNet Idealize.SL.Sem

/-- The values of a function at the first `N` numbers, listed either way. -/
theorem map_range_eq {β : Type} (N : ℕ) (f : ℕ → β) (g : Fin N → β) (h : ∀ n : Fin N, f n.val = g n) : (List.range N).map f = List.ofFn g := by
  rw [List.ofFn_eq_map, ← List.map_coe_finRange_eq_range, List.map_map]
  exact List.map_congr_left fun n _ => h n

/-- The value both programs return, from the arguments. -/
def result (x : Cert.ReferenceIdeal.S8x128x1024.Idx → Ideal .bf16) (codes : Cert.ReferenceIdeal.S360448x1024.Idx → BitVec 8)
    (scales : Cert.ReferenceIdeal.S360448.Idx → Ideal .f32) : Cert.ReferenceIdeal.S20x1024.Idx → Ideal .f32 :=
  open Cert.ReferenceIdeal Cert.ReferenceIdeal.Gen in
  transpose S20x1024 [1, 0] ((Host.topK S1024x20 1 (FloatOps.cmpfTotal (F := Ideal) (φ := .f32) .gt) (mulf (Host.dotGeneral dot_S1024x1024_S360448x1024_S1024x360448_1_1_0_0_n_n none (shapeCast _ x shapeCasts_S8x128x1024_S1024x1024) (truncf .bf16 (sitofp .f32 (extsi 32 codes natLt_8_32)) bitsLt_bf16_f32)) (broadcastInDim S1024x360448 ![0, 1] bcast_S1x360448_S1024x360448_0_1 (broadcastInDim S1x360448 ![1] bcast_S360448_S1x360448_1 scales))) sliceFits_S1024x360448_S1024x20).1) transposes_S1024x20_S20x1024_1_0

/-- A column of the result is the list of the twenty greatest scores of that query. -/
theorem result_col (x : Cert.ReferenceIdeal.S8x128x1024.Idx → Ideal .bf16) (codes : Cert.ReferenceIdeal.S360448x1024.Idx → BitVec 8)
    (scales : Cert.ReferenceIdeal.S360448.Idx → Ideal .f32) (q : Fin 1024) :
    (List.ofFn fun k : Fin 20 => (result x codes scales (ix2 k q) : EReal))
      = topList 20 ((List.range (8 * 45056)).map (Cert.KernelIdeal.Hand.score x codes scales q)) := by
  refine (Cert.ReferenceIdeal.Hand.result_ref x codes scales q).trans (congrArg (topList 20) ?_)
  rw [show 8 * 45056 = 360448 from rfl]
  refine (map_range_eq 360448 _ _ fun n => ?_).symm
  unfold Cert.KernelIdeal.Hand.score
  exact dif_pos n.isLt

/-- What the kernel's run leaves is that value. -/
theorem result_unique (m : (ℓ : Loc Cert.KernelIdeal.nD Cert.KernelIdeal.τ Cert.KernelIdeal.sig) → Buf (Elt Ideal) ℓ) (c : Dev Cert.KernelIdeal.nD)
    (X : Vec Ideal Cert.KernelIdeal.S20x1024 .f32) (h : Cert.KernelIdeal.Hand.RI m c X) (j : Cert.KernelIdeal.S20x1024.Idx) :
    X j = result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) j := by
  have hj : j = ix2 (j 0) (j 1) := by
    funext a
    match a with
    | ⟨0, _⟩ => rfl
    | ⟨1, _⟩ => rfl
  rw [hj]
  exact congrFun (List.ofFn_injective ((h (j 1)).trans (result_col _ _ _ (j 1)).symm)) (j 0)

/-- The kernel and the reference return the same value. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ?_)
      (Cert.KernelIdeal.Hand.run m g (Cert.KernelIdeal.Hand.SI m) (Cert.KernelIdeal.Hand.RI m) (Cert.KernelIdeal.Hand.keeps m))
    obtain ⟨⟨X, hX, hr⟩, ha⟩ := h.1 c
    exact ⟨funext fun j => (hr j).trans (result_unique m c X hX j), ha⟩
  · refine (θ_run Cert.ReferenceIdeal.defs _ _).mono (fun r h c => ?_) (Cert.ReferenceIdeal.Value.run (F := Ideal) m' g')
    refine ⟨(h c).1.trans ?_, (h c).2⟩
    rw [(hm c).1, (hm c).2.1, (hm c).2.2]
    rfl

end Cert.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KRun
public import proofs.«01_k».proof.Proof.Run
public import proofs.«01_k».proof.Proof.Value

@[expose] public section

noncomputable section

namespace Cert.Proof

open Idealize.ShloMosaic Idealize.SL.Sem

/-- The reference runs to its end, its arguments unchanged, and it has no counters. -/
theorem frame_r : Cert.quiescent_ReferenceIdeal (hReferenceIdeal := Cert.ReferenceIdeal.Gen.facts) := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- Every claim of the certificate. -/
theorem claim : Cert.Claim := ⟨Cert.Kernel.Gen.facts, Cert.KernelIdeal.Gen.facts, Cert.ReferenceIdeal.Gen.facts,
  fun m g _ => Cert.Kernel.Hand.frame (F := Bits) m g,
  fun m g _ => Cert.KernelIdeal.Hand.frame (F := Ideal) m g,
  frame_r,
  trivial,
  Cert.Value.algebraic⟩

end Cert.Proof

end
